-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S8x16x128x256 : Shape := ⟨4, ![8, 16, 128, 256]⟩
abbrev S2x8x16 : Shape := ⟨3, ![2, 8, 16]⟩
abbrev S_ : Shape := ⟨0, ![]⟩
abbrev S128x128 : Shape := ⟨2, ![128, 128]⟩
abbrev S128x1024 : Shape := ⟨2, ![128, 1024]⟩
abbrev S128x256 : Shape := ⟨2, ![128, 256]⟩
abbrev S1x1x128x256 : Shape := ⟨4, ![1, 1, 128, 256]⟩
abbrev S1x1x1 : Shape := ⟨3, ![1, 1, 1]⟩

abbrev nBuf : Space → Nat
  | .hbm => 3
  | .vmem => 4
  | .smem => 0
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S128x2048, .f32⟩
  | .local _ .vmem, ⟨0, _⟩ => ⟨S2048x128, .f32⟩
  | .local _ .vmem, ⟨1, _⟩ => ⟨S128x2048, .f32⟩
  | .local _ .vmem, ⟨2, _⟩ => ⟨S128x2048, .f32⟩
  | .local _ .vmem, ⟨3, _⟩ => ⟨S8x16x128x256, .f32⟩
  | _, _ => ⟨S2048x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 259 → Bool
  | ⟨i, _⟩ => dmaSemScopedAt i

abbrev sig : RefSig :=
  (ofTc nBuf bufTy 2 259 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v30 : BitVec 32 := Scalar.subi v2 c1_i32_19
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c128_i32 : BitVec 32 := 128#32
  let v41 : BitVec 32 := Scalar.muli v40 c128_i32
  let v42 : Index := Scalar.indexCast v41
  let c0 : Index := 0#32
  ![v42.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_28 : BitVec 32 := 1#32
  let v48 : BitVec 32 := Scalar.addi v2 c1_i32_28
  let c16_i32_29 : BitVec 32 := 16#32
  let c0_i32_30 : BitVec 32 := 0#32
  let v49 : BitVec 1 := Scalar.cmpi .eq c16_i32_29 c0_i32_30
  let c1_i32_31 : BitVec 32 := 1#32
  let v50 : BitVec 32 := Scalar.select v49 c1_i32_31 c16_i32_29
  let v51 : BitVec 32 := Scalar.remsi v48 v50
  let c0_i32_33 : BitVec 32 := 0#32
  let v53 : BitVec 1 := Scalar.cmpi .slt v51 c0_i32_33
  let c0_i32_34 : BitVec 32 := 0#32
  let v54 : BitVec 1 := Scalar.cmpi .slt v50 c0_i32_34
  let v55 : BitVec 1 := Scalar.xori v53 v54
  let c0_i32_32 : BitVec 32 := 0#32
  let v52 : BitVec 1 := Scalar.cmpi .ne v51 c0_i32_32
  let v56 : BitVec 1 := Scalar.andi v55 v52
  let v57 : BitVec 32 := Scalar.addi v51 v50
  let v58 : BitVec 32 := Scalar.select v56 v57 v51
  let c128_i32_35 : BitVec 32 := 128#32
  let v59 : BitVec 32 := Scalar.muli v58 c128_i32_35
  let v60 : Index := Scalar.indexCast v59
  let c0_36 : Index := 0#32
  ![v60.toNat, 0]
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_53 : BitVec 32 := 1#32
  let v70 : BitVec 32 := Scalar.muli v24 c1_i32_53
  let v71 : BitVec 32 := Scalar.addi c0_i32_54 v70
  v71.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_71 : BitVec 32 := 1#32
  let v84 : BitVec 32 := Scalar.muli v13 c1_i32_71
  let v85 : BitVec 32 := Scalar.addi c0_i32_72 v84
  v85.toNat
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_90 : BitVec 32 := 1#32
  let v98 : BitVec 32 := Scalar.muli v24 c1_i32_90
  let v99 : BitVec 32 := Scalar.addi c0_i32_91 v98
  v99.toNat
def k0_dev6 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_108 : BitVec 32 := 1#32
  let v112 : BitVec 32 := Scalar.muli v13 c1_i32_108
  let v113 : BitVec 32 := Scalar.addi c0_i32_109 v112
  v113.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_127 : BitVec 32 := 1#32
  let v126 : BitVec 32 := Scalar.muli v24 c1_i32_127
  let v127 : BitVec 32 := Scalar.addi c0_i32_128 v126
  v127.toNat
def k0_dev8 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_145 : BitVec 32 := 1#32
  let v140 : BitVec 32 := Scalar.muli v13 c1_i32_145
  let v141 : BitVec 32 := Scalar.addi c0_i32_146 v140
  v141.toNat
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_163 : BitVec 32 := 1#32
  let v154 : BitVec 32 := Scalar.muli v24 c1_i32_163
  let v155 : BitVec 32 := Scalar.addi c0_i32_164 v154
  v155.toNat
def k0_dev10 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_181 : BitVec 32 := 1#32
  let v168 : BitVec 32 := Scalar.muli v13 c1_i32_181
  let v169 : BitVec 32 := Scalar.addi c0_i32_182 v168
  v169.toNat
def k0_off3 (d0 : Dev nD) (c0_i32_188 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_187 : BitVec 32 := 2#32
  let v178 : BitVec 32 := Scalar.subi v2 c2_i32_187
  let v179 : BitVec 32 := Scalar.subi v178 c0_i32_188
  let c16_i32_189 : BitVec 32 := 16#32
  let c0_i32_190 : BitVec 32 := 0#32
  let v180 : BitVec 1 := Scalar.cmpi .eq c16_i32_189 c0_i32_190
  let c1_i32_191 : BitVec 32 := 1#32
  let v181 : BitVec 32 := Scalar.select v180 c1_i32_191 c16_i32_189
  let v182 : BitVec 32 := Scalar.remsi v179 v181
  let c0_i32_193 : BitVec 32 := 0#32
  let v184 : BitVec 1 := Scalar.cmpi .slt v182 c0_i32_193
  let c0_i32_194 : BitVec 32 := 0#32
  let v185 : BitVec 1 := Scalar.cmpi .slt v181 c0_i32_194
  let v186 : BitVec 1 := Scalar.xori v184 v185
  let c0_i32_192 : BitVec 32 := 0#32
  let v183 : BitVec 1 := Scalar.cmpi .ne v182 c0_i32_192
  let v187 : BitVec 1 := Scalar.andi v186 v183
  let v188 : BitVec 32 := Scalar.addi v182 v181
  let v189 : BitVec 32 := Scalar.select v187 v188 v182
  let c128_i32_195 : BitVec 32 := 128#32
  let v190 : BitVec 32 := Scalar.muli v189 c128_i32_195
  let v191 : Index := Scalar.indexCast v190
  let c0_196 : Index := 0#32
  ![v191.toNat, 0]
def k0_off4 (d0 : Dev nD) (c0_i32_201 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_200 : BitVec 32 := 2#32
  let v197 : BitVec 32 := Scalar.addi v2 c2_i32_200
  let v198 : BitVec 32 := Scalar.addi v197 c0_i32_201
  let c16_i32_202 : BitVec 32 := 16#32
  let c0_i32_203 : BitVec 32 := 0#32
  let v199 : BitVec 1 := Scalar.cmpi .eq c16_i32_202 c0_i32_203
  let c1_i32_204 : BitVec 32 := 1#32
  let v200 : BitVec 32 := Scalar.select v199 c1_i32_204 c16_i32_202
  let v201 : BitVec 32 := Scalar.remsi v198 v200
  let c0_i32_206 : BitVec 32 := 0#32
  let v203 : BitVec 1 := Scalar.cmpi .slt v201 c0_i32_206
  let c0_i32_207 : BitVec 32 := 0#32
  let v204 : BitVec 1 := Scalar.cmpi .slt v200 c0_i32_207
  let v205 : BitVec 1 := Scalar.xori v203 v204
  let c0_i32_205 : BitVec 32 := 0#32
  let v202 : BitVec 1 := Scalar.cmpi .ne v201 c0_i32_205
  let v206 : BitVec 1 := Scalar.andi v205 v202
  let v207 : BitVec 32 := Scalar.addi v201 v200
  let v208 : BitVec 32 := Scalar.select v206 v207 v201
  let c128_i32_208 : BitVec 32 := 128#32
  let v209 : BitVec 32 := Scalar.muli v208 c128_i32_208
  let v210 : Index := Scalar.indexCast v209
  let c0_209 : Index := 0#32
  ![v210.toNat, 0]
def k0_dev11 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_247 : BitVec 32 := 1#32
  let v231 : BitVec 32 := Scalar.muli v24 c1_i32_247
  let v232 : BitVec 32 := Scalar.addi c0_i32_248 v231
  v232.toNat
def k0_dev12 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_287 : BitVec 32 := 1#32
  let v256 : BitVec 32 := Scalar.muli v13 c1_i32_287
  let v257 : BitVec 32 := Scalar.addi c0_i32_288 v256
  v257.toNat
def k0_dev13 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_327 : BitVec 32 := 1#32
  let v281 : BitVec 32 := Scalar.muli v24 c1_i32_327
  let v282 : BitVec 32 := Scalar.addi c0_i32_328 v281
  v282.toNat
def k0_dev14 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_367 : BitVec 32 := 1#32
  let v306 : BitVec 32 := Scalar.muli v13 c1_i32_367
  let v307 : BitVec 32 := Scalar.addi c0_i32_368 v306
  v307.toNat
def k0_dev15 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_407 : BitVec 32 := 1#32
  let v331 : BitVec 32 := Scalar.muli v24 c1_i32_407
  let v332 : BitVec 32 := Scalar.addi c0_i32_408 v331
  v332.toNat
def k0_dev16 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_447 : BitVec 32 := 1#32
  let v356 : BitVec 32 := Scalar.muli v13 c1_i32_447
  let v357 : BitVec 32 := Scalar.addi c0_i32_448 v356
  v357.toNat
def k0_dev17 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_487 : BitVec 32 := 1#32
  let v381 : BitVec 32 := Scalar.muli v24 c1_i32_487
  let v382 : BitVec 32 := Scalar.addi c0_i32_488 v381
  v382.toNat
def k0_dev18 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_527 : BitVec 32 := 1#32
  let v406 : BitVec 32 := Scalar.muli v13 c1_i32_527
  let v407 : BitVec 32 := Scalar.addi c0_i32_528 v406
  v407.toNat
def k0_dev19 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_593 : BitVec 32 := 1#32
  let v469 : BitVec 32 := Scalar.muli v24 c1_i32_593
  let v470 : BitVec 32 := Scalar.addi c0_i32_594 v469
  v470.toNat
def k0_dev20 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_633 : BitVec 32 := 1#32
  let v494 : BitVec 32 := Scalar.muli v13 c1_i32_633
  let v495 : BitVec 32 := Scalar.addi c0_i32_634 v494
  v495.toNat
def k0_dev21 (d0 : Dev nD) : Nat :=
  let c0_i32_674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_673 : BitVec 32 := 1#32
  let v519 : BitVec 32 := Scalar.muli v24 c1_i32_673
  let v520 : BitVec 32 := Scalar.addi c0_i32_674 v519
  v520.toNat
def k0_dev22 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_713 : BitVec 32 := 1#32
  let v544 : BitVec 32 := Scalar.muli v13 c1_i32_713
  let v545 : BitVec 32 := Scalar.addi c0_i32_714 v544
  v545.toNat
def k0_dev23 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_753 : BitVec 32 := 1#32
  let v569 : BitVec 32 := Scalar.muli v24 c1_i32_753
  let v570 : BitVec 32 := Scalar.addi c0_i32_754 v569
  v570.toNat
def k0_dev24 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_793 : BitVec 32 := 1#32
  let v594 : BitVec 32 := Scalar.muli v13 c1_i32_793
  let v595 : BitVec 32 := Scalar.addi c0_i32_794 v594
  v595.toNat
def k0_dev25 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_833 : BitVec 32 := 1#32
  let v619 : BitVec 32 := Scalar.muli v24 c1_i32_833
  let v620 : BitVec 32 := Scalar.addi c0_i32_834 v619
  v620.toNat
def k0_dev26 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_873 : BitVec 32 := 1#32
  let v644 : BitVec 32 := Scalar.muli v13 c1_i32_873
  let v645 : BitVec 32 := Scalar.addi c0_i32_874 v644
  v645.toNat
def k0_dev27 (d0 : Dev nD) : Nat :=
  let c0_i32_940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_939 : BitVec 32 := 1#32
  let v707 : BitVec 32 := Scalar.muli v24 c1_i32_939
  let v708 : BitVec 32 := Scalar.addi c0_i32_940 v707
  v708.toNat
def k0_dev28 (d0 : Dev nD) : Nat :=
  let c0_i32_980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_979 : BitVec 32 := 1#32
  let v732 : BitVec 32 := Scalar.muli v13 c1_i32_979
  let v733 : BitVec 32 := Scalar.addi c0_i32_980 v732
  v733.toNat
def k0_dev29 (d0 : Dev nD) : Nat :=
  let c0_i32_1020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1019 : BitVec 32 := 1#32
  let v757 : BitVec 32 := Scalar.muli v24 c1_i32_1019
  let v758 : BitVec 32 := Scalar.addi c0_i32_1020 v757
  v758.toNat
def k0_dev30 (d0 : Dev nD) : Nat :=
  let c0_i32_1060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1059 : BitVec 32 := 1#32
  let v782 : BitVec 32 := Scalar.muli v13 c1_i32_1059
  let v783 : BitVec 32 := Scalar.addi c0_i32_1060 v782
  v783.toNat
def k0_dev31 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1099 : BitVec 32 := 1#32
  let v807 : BitVec 32 := Scalar.muli v24 c1_i32_1099
  let v808 : BitVec 32 := Scalar.addi c0_i32_1100 v807
  v808.toNat
def k0_dev32 (d0 : Dev nD) : Nat :=
  let c0_i32_1140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1139 : BitVec 32 := 1#32
  let v832 : BitVec 32 := Scalar.muli v13 c1_i32_1139
  let v833 : BitVec 32 := Scalar.addi c0_i32_1140 v832
  v833.toNat
def k0_dev33 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1179 : BitVec 32 := 1#32
  let v857 : BitVec 32 := Scalar.muli v24 c1_i32_1179
  let v858 : BitVec 32 := Scalar.addi c0_i32_1180 v857
  v858.toNat
def k0_dev34 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1219 : BitVec 32 := 1#32
  let v882 : BitVec 32 := Scalar.muli v13 c1_i32_1219
  let v883 : BitVec 32 := Scalar.addi c0_i32_1220 v882
  v883.toNat
def k0_dev35 (d0 : Dev nD) : Nat :=
  let c0_i32_1286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1285 : BitVec 32 := 1#32
  let v945 : BitVec 32 := Scalar.muli v24 c1_i32_1285
  let v946 : BitVec 32 := Scalar.addi c0_i32_1286 v945
  v946.toNat
def k0_dev36 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1325 : BitVec 32 := 1#32
  let v970 : BitVec 32 := Scalar.muli v13 c1_i32_1325
  let v971 : BitVec 32 := Scalar.addi c0_i32_1326 v970
  v971.toNat
def k0_dev37 (d0 : Dev nD) : Nat :=
  let c0_i32_1366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1365 : BitVec 32 := 1#32
  let v995 : BitVec 32 := Scalar.muli v24 c1_i32_1365
  let v996 : BitVec 32 := Scalar.addi c0_i32_1366 v995
  v996.toNat
def k0_dev38 (d0 : Dev nD) : Nat :=
  let c0_i32_1406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1405 : BitVec 32 := 1#32
  let v1020 : BitVec 32 := Scalar.muli v13 c1_i32_1405
  let v1021 : BitVec 32 := Scalar.addi c0_i32_1406 v1020
  v1021.toNat
def k0_dev39 (d0 : Dev nD) : Nat :=
  let c0_i32_1446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1445 : BitVec 32 := 1#32
  let v1045 : BitVec 32 := Scalar.muli v24 c1_i32_1445
  let v1046 : BitVec 32 := Scalar.addi c0_i32_1446 v1045
  v1046.toNat
def k0_dev40 (d0 : Dev nD) : Nat :=
  let c0_i32_1486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1485 : BitVec 32 := 1#32
  let v1070 : BitVec 32 := Scalar.muli v13 c1_i32_1485
  let v1071 : BitVec 32 := Scalar.addi c0_i32_1486 v1070
  v1071.toNat
def k0_dev41 (d0 : Dev nD) : Nat :=
  let c0_i32_1526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1525 : BitVec 32 := 1#32
  let v1095 : BitVec 32 := Scalar.muli v24 c1_i32_1525
  let v1096 : BitVec 32 := Scalar.addi c0_i32_1526 v1095
  v1096.toNat
def k0_dev42 (d0 : Dev nD) : Nat :=
  let c0_i32_1566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1565 : BitVec 32 := 1#32
  let v1120 : BitVec 32 := Scalar.muli v13 c1_i32_1565
  let v1121 : BitVec 32 := Scalar.addi c0_i32_1566 v1120
  v1121.toNat
def k0_dev43 (d0 : Dev nD) : Nat :=
  let c0_i32_1632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1631 : BitVec 32 := 1#32
  let v1183 : BitVec 32 := Scalar.muli v24 c1_i32_1631
  let v1184 : BitVec 32 := Scalar.addi c0_i32_1632 v1183
  v1184.toNat
def k0_dev44 (d0 : Dev nD) : Nat :=
  let c0_i32_1672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1671 : BitVec 32 := 1#32
  let v1208 : BitVec 32 := Scalar.muli v13 c1_i32_1671
  let v1209 : BitVec 32 := Scalar.addi c0_i32_1672 v1208
  v1209.toNat
def k0_dev45 (d0 : Dev nD) : Nat :=
  let c0_i32_1712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1711 : BitVec 32 := 1#32
  let v1233 : BitVec 32 := Scalar.muli v24 c1_i32_1711
  let v1234 : BitVec 32 := Scalar.addi c0_i32_1712 v1233
  v1234.toNat
def k0_dev46 (d0 : Dev nD) : Nat :=
  let c0_i32_1752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1751 : BitVec 32 := 1#32
  let v1258 : BitVec 32 := Scalar.muli v13 c1_i32_1751
  let v1259 : BitVec 32 := Scalar.addi c0_i32_1752 v1258
  v1259.toNat
def k0_dev47 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1791 : BitVec 32 := 1#32
  let v1283 : BitVec 32 := Scalar.muli v24 c1_i32_1791
  let v1284 : BitVec 32 := Scalar.addi c0_i32_1792 v1283
  v1284.toNat
def k0_dev48 (d0 : Dev nD) : Nat :=
  let c0_i32_1832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1831 : BitVec 32 := 1#32
  let v1308 : BitVec 32 := Scalar.muli v13 c1_i32_1831
  let v1309 : BitVec 32 := Scalar.addi c0_i32_1832 v1308
  v1309.toNat
def k0_dev49 (d0 : Dev nD) : Nat :=
  let c0_i32_1872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1871 : BitVec 32 := 1#32
  let v1333 : BitVec 32 := Scalar.muli v24 c1_i32_1871
  let v1334 : BitVec 32 := Scalar.addi c0_i32_1872 v1333
  v1334.toNat
def k0_dev50 (d0 : Dev nD) : Nat :=
  let c0_i32_1912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1911 : BitVec 32 := 1#32
  let v1358 : BitVec 32 := Scalar.muli v13 c1_i32_1911
  let v1359 : BitVec 32 := Scalar.addi c0_i32_1912 v1358
  v1359.toNat
def k0_dev51 (d0 : Dev nD) : Nat :=
  let c0_i32_1978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1977 : BitVec 32 := 1#32
  let v1421 : BitVec 32 := Scalar.muli v24 c1_i32_1977
  let v1422 : BitVec 32 := Scalar.addi c0_i32_1978 v1421
  v1422.toNat
def k0_dev52 (d0 : Dev nD) : Nat :=
  let c0_i32_2018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2017 : BitVec 32 := 1#32
  let v1446 : BitVec 32 := Scalar.muli v13 c1_i32_2017
  let v1447 : BitVec 32 := Scalar.addi c0_i32_2018 v1446
  v1447.toNat
def k0_dev53 (d0 : Dev nD) : Nat :=
  let c0_i32_2058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2057 : BitVec 32 := 1#32
  let v1471 : BitVec 32 := Scalar.muli v24 c1_i32_2057
  let v1472 : BitVec 32 := Scalar.addi c0_i32_2058 v1471
  v1472.toNat
def k0_dev54 (d0 : Dev nD) : Nat :=
  let c0_i32_2098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2097 : BitVec 32 := 1#32
  let v1496 : BitVec 32 := Scalar.muli v13 c1_i32_2097
  let v1497 : BitVec 32 := Scalar.addi c0_i32_2098 v1496
  v1497.toNat
def k0_dev55 (d0 : Dev nD) : Nat :=
  let c0_i32_2138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2137 : BitVec 32 := 1#32
  let v1521 : BitVec 32 := Scalar.muli v24 c1_i32_2137
  let v1522 : BitVec 32 := Scalar.addi c0_i32_2138 v1521
  v1522.toNat
def k0_dev56 (d0 : Dev nD) : Nat :=
  let c0_i32_2178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2177 : BitVec 32 := 1#32
  let v1546 : BitVec 32 := Scalar.muli v13 c1_i32_2177
  let v1547 : BitVec 32 := Scalar.addi c0_i32_2178 v1546
  v1547.toNat
def k0_dev57 (d0 : Dev nD) : Nat :=
  let c0_i32_2218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2217 : BitVec 32 := 1#32
  let v1571 : BitVec 32 := Scalar.muli v24 c1_i32_2217
  let v1572 : BitVec 32 := Scalar.addi c0_i32_2218 v1571
  v1572.toNat
def k0_dev58 (d0 : Dev nD) : Nat :=
  let c0_i32_2258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2257 : BitVec 32 := 1#32
  let v1596 : BitVec 32 := Scalar.muli v13 c1_i32_2257
  let v1597 : BitVec 32 := Scalar.addi c0_i32_2258 v1596
  v1597.toNat
def k0_dev59 (d0 : Dev nD) : Nat :=
  let c0_i32_2323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2322 : BitVec 32 := 1#32
  let v1659 : BitVec 32 := Scalar.muli v24 c1_i32_2322
  let v1660 : BitVec 32 := Scalar.addi c0_i32_2323 v1659
  v1660.toNat
def k0_dev60 (d0 : Dev nD) : Nat :=
  let c0_i32_2363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2362 : BitVec 32 := 1#32
  let v1684 : BitVec 32 := Scalar.muli v13 c1_i32_2362
  let v1685 : BitVec 32 := Scalar.addi c0_i32_2363 v1684
  v1685.toNat
def k0_dev61 (d0 : Dev nD) : Nat :=
  let c0_i32_2403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2402 : BitVec 32 := 1#32
  let v1709 : BitVec 32 := Scalar.muli v24 c1_i32_2402
  let v1710 : BitVec 32 := Scalar.addi c0_i32_2403 v1709
  v1710.toNat
def k0_dev62 (d0 : Dev nD) : Nat :=
  let c0_i32_2443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2442 : BitVec 32 := 1#32
  let v1734 : BitVec 32 := Scalar.muli v13 c1_i32_2442
  let v1735 : BitVec 32 := Scalar.addi c0_i32_2443 v1734
  v1735.toNat
def k0_dev63 (d0 : Dev nD) : Nat :=
  let c0_i32_2483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2482 : BitVec 32 := 1#32
  let v1759 : BitVec 32 := Scalar.muli v24 c1_i32_2482
  let v1760 : BitVec 32 := Scalar.addi c0_i32_2483 v1759
  v1760.toNat
def k0_dev64 (d0 : Dev nD) : Nat :=
  let c0_i32_2523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2522 : BitVec 32 := 1#32
  let v1784 : BitVec 32 := Scalar.muli v13 c1_i32_2522
  let v1785 : BitVec 32 := Scalar.addi c0_i32_2523 v1784
  v1785.toNat
def k0_dev65 (d0 : Dev nD) : Nat :=
  let c0_i32_2563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2562 : BitVec 32 := 1#32
  let v1809 : BitVec 32 := Scalar.muli v24 c1_i32_2562
  let v1810 : BitVec 32 := Scalar.addi c0_i32_2563 v1809
  v1810.toNat
def k0_dev66 (d0 : Dev nD) : Nat :=
  let c0_i32_2603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2602 : BitVec 32 := 1#32
  let v1834 : BitVec 32 := Scalar.muli v13 c1_i32_2602
  let v1835 : BitVec 32 := Scalar.addi c0_i32_2603 v1834
  v1835.toNat
def k0_dev67 (d0 : Dev nD) : Nat :=
  let c0_i32_2667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2666 : BitVec 32 := 1#32
  let v1897 : BitVec 32 := Scalar.muli v24 c1_i32_2666
  let v1898 : BitVec 32 := Scalar.addi c0_i32_2667 v1897
  v1898.toNat
def k0_dev68 (d0 : Dev nD) : Nat :=
  let c0_i32_2707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2706 : BitVec 32 := 1#32
  let v1922 : BitVec 32 := Scalar.muli v13 c1_i32_2706
  let v1923 : BitVec 32 := Scalar.addi c0_i32_2707 v1922
  v1923.toNat
def k0_dev69 (d0 : Dev nD) : Nat :=
  let c0_i32_2747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2746 : BitVec 32 := 1#32
  let v1947 : BitVec 32 := Scalar.muli v24 c1_i32_2746
  let v1948 : BitVec 32 := Scalar.addi c0_i32_2747 v1947
  v1948.toNat
def k0_dev70 (d0 : Dev nD) : Nat :=
  let c0_i32_2787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2786 : BitVec 32 := 1#32
  let v1972 : BitVec 32 := Scalar.muli v13 c1_i32_2786
  let v1973 : BitVec 32 := Scalar.addi c0_i32_2787 v1972
  v1973.toNat
def k0_dev71 (d0 : Dev nD) : Nat :=
  let c0_i32_2827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2826 : BitVec 32 := 1#32
  let v1997 : BitVec 32 := Scalar.muli v24 c1_i32_2826
  let v1998 : BitVec 32 := Scalar.addi c0_i32_2827 v1997
  v1998.toNat
def k0_dev72 (d0 : Dev nD) : Nat :=
  let c0_i32_2867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2866 : BitVec 32 := 1#32
  let v2022 : BitVec 32 := Scalar.muli v13 c1_i32_2866
  let v2023 : BitVec 32 := Scalar.addi c0_i32_2867 v2022
  v2023.toNat
def k0_dev73 (d0 : Dev nD) : Nat :=
  let c0_i32_2907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2906 : BitVec 32 := 1#32
  let v2047 : BitVec 32 := Scalar.muli v24 c1_i32_2906
  let v2048 : BitVec 32 := Scalar.addi c0_i32_2907 v2047
  v2048.toNat
def k0_dev74 (d0 : Dev nD) : Nat :=
  let c0_i32_2947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2946 : BitVec 32 := 1#32
  let v2072 : BitVec 32 := Scalar.muli v13 c1_i32_2946
  let v2073 : BitVec 32 := Scalar.addi c0_i32_2947 v2072
  v2073.toNat
def k0_dev75 (d0 : Dev nD) : Nat :=
  let c0_i32_3011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3010 : BitVec 32 := 1#32
  let v2135 : BitVec 32 := Scalar.muli v24 c1_i32_3010
  let v2136 : BitVec 32 := Scalar.addi c0_i32_3011 v2135
  v2136.toNat
def k0_dev76 (d0 : Dev nD) : Nat :=
  let c0_i32_3051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3050 : BitVec 32 := 1#32
  let v2160 : BitVec 32 := Scalar.muli v13 c1_i32_3050
  let v2161 : BitVec 32 := Scalar.addi c0_i32_3051 v2160
  v2161.toNat
def k0_dev77 (d0 : Dev nD) : Nat :=
  let c0_i32_3091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3090 : BitVec 32 := 1#32
  let v2185 : BitVec 32 := Scalar.muli v24 c1_i32_3090
  let v2186 : BitVec 32 := Scalar.addi c0_i32_3091 v2185
  v2186.toNat
def k0_dev78 (d0 : Dev nD) : Nat :=
  let c0_i32_3131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3130 : BitVec 32 := 1#32
  let v2210 : BitVec 32 := Scalar.muli v13 c1_i32_3130
  let v2211 : BitVec 32 := Scalar.addi c0_i32_3131 v2210
  v2211.toNat
def k0_dev79 (d0 : Dev nD) : Nat :=
  let c0_i32_3171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3170 : BitVec 32 := 1#32
  let v2235 : BitVec 32 := Scalar.muli v24 c1_i32_3170
  let v2236 : BitVec 32 := Scalar.addi c0_i32_3171 v2235
  v2236.toNat
def k0_dev80 (d0 : Dev nD) : Nat :=
  let c0_i32_3211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3210 : BitVec 32 := 1#32
  let v2260 : BitVec 32 := Scalar.muli v13 c1_i32_3210
  let v2261 : BitVec 32 := Scalar.addi c0_i32_3211 v2260
  v2261.toNat
def k0_dev81 (d0 : Dev nD) : Nat :=
  let c0_i32_3251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3250 : BitVec 32 := 1#32
  let v2285 : BitVec 32 := Scalar.muli v24 c1_i32_3250
  let v2286 : BitVec 32 := Scalar.addi c0_i32_3251 v2285
  v2286.toNat
def k0_dev82 (d0 : Dev nD) : Nat :=
  let c0_i32_3291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3290 : BitVec 32 := 1#32
  let v2310 : BitVec 32 := Scalar.muli v13 c1_i32_3290
  let v2311 : BitVec 32 := Scalar.addi c0_i32_3291 v2310
  v2311.toNat
def k0_dev83 (d0 : Dev nD) : Nat :=
  let c0_i32_3355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3354 : BitVec 32 := 1#32
  let v2373 : BitVec 32 := Scalar.muli v24 c1_i32_3354
  let v2374 : BitVec 32 := Scalar.addi c0_i32_3355 v2373
  v2374.toNat
def k0_dev84 (d0 : Dev nD) : Nat :=
  let c0_i32_3395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3394 : BitVec 32 := 1#32
  let v2398 : BitVec 32 := Scalar.muli v13 c1_i32_3394
  let v2399 : BitVec 32 := Scalar.addi c0_i32_3395 v2398
  v2399.toNat
def k0_dev85 (d0 : Dev nD) : Nat :=
  let c0_i32_3435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3434 : BitVec 32 := 1#32
  let v2423 : BitVec 32 := Scalar.muli v24 c1_i32_3434
  let v2424 : BitVec 32 := Scalar.addi c0_i32_3435 v2423
  v2424.toNat
def k0_dev86 (d0 : Dev nD) : Nat :=
  let c0_i32_3475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3474 : BitVec 32 := 1#32
  let v2448 : BitVec 32 := Scalar.muli v13 c1_i32_3474
  let v2449 : BitVec 32 := Scalar.addi c0_i32_3475 v2448
  v2449.toNat
def k0_dev87 (d0 : Dev nD) : Nat :=
  let c0_i32_3515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3514 : BitVec 32 := 1#32
  let v2473 : BitVec 32 := Scalar.muli v24 c1_i32_3514
  let v2474 : BitVec 32 := Scalar.addi c0_i32_3515 v2473
  v2474.toNat
def k0_dev88 (d0 : Dev nD) : Nat :=
  let c0_i32_3555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3554 : BitVec 32 := 1#32
  let v2498 : BitVec 32 := Scalar.muli v13 c1_i32_3554
  let v2499 : BitVec 32 := Scalar.addi c0_i32_3555 v2498
  v2499.toNat
def k0_dev89 (d0 : Dev nD) : Nat :=
  let c0_i32_3595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3594 : BitVec 32 := 1#32
  let v2523 : BitVec 32 := Scalar.muli v24 c1_i32_3594
  let v2524 : BitVec 32 := Scalar.addi c0_i32_3595 v2523
  v2524.toNat
def k0_dev90 (d0 : Dev nD) : Nat :=
  let c0_i32_3635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3634 : BitVec 32 := 1#32
  let v2548 : BitVec 32 := Scalar.muli v13 c1_i32_3634
  let v2549 : BitVec 32 := Scalar.addi c0_i32_3635 v2548
  v2549.toNat
def k0_dev91 (d0 : Dev nD) : Nat :=
  let c0_i32_3699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3698 : BitVec 32 := 1#32
  let v2611 : BitVec 32 := Scalar.muli v24 c1_i32_3698
  let v2612 : BitVec 32 := Scalar.addi c0_i32_3699 v2611
  v2612.toNat
def k0_dev92 (d0 : Dev nD) : Nat :=
  let c0_i32_3739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3738 : BitVec 32 := 1#32
  let v2636 : BitVec 32 := Scalar.muli v13 c1_i32_3738
  let v2637 : BitVec 32 := Scalar.addi c0_i32_3739 v2636
  v2637.toNat
def k0_dev93 (d0 : Dev nD) : Nat :=
  let c0_i32_3779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3778 : BitVec 32 := 1#32
  let v2661 : BitVec 32 := Scalar.muli v24 c1_i32_3778
  let v2662 : BitVec 32 := Scalar.addi c0_i32_3779 v2661
  v2662.toNat
def k0_dev94 (d0 : Dev nD) : Nat :=
  let c0_i32_3819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3818 : BitVec 32 := 1#32
  let v2686 : BitVec 32 := Scalar.muli v13 c1_i32_3818
  let v2687 : BitVec 32 := Scalar.addi c0_i32_3819 v2686
  v2687.toNat
def k0_dev95 (d0 : Dev nD) : Nat :=
  let c0_i32_3859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3858 : BitVec 32 := 1#32
  let v2711 : BitVec 32 := Scalar.muli v24 c1_i32_3858
  let v2712 : BitVec 32 := Scalar.addi c0_i32_3859 v2711
  v2712.toNat
def k0_dev96 (d0 : Dev nD) : Nat :=
  let c0_i32_3899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3898 : BitVec 32 := 1#32
  let v2736 : BitVec 32 := Scalar.muli v13 c1_i32_3898
  let v2737 : BitVec 32 := Scalar.addi c0_i32_3899 v2736
  v2737.toNat
def k0_dev97 (d0 : Dev nD) : Nat :=
  let c0_i32_3939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3938 : BitVec 32 := 1#32
  let v2761 : BitVec 32 := Scalar.muli v24 c1_i32_3938
  let v2762 : BitVec 32 := Scalar.addi c0_i32_3939 v2761
  v2762.toNat
def k0_dev98 (d0 : Dev nD) : Nat :=
  let c0_i32_3979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3978 : BitVec 32 := 1#32
  let v2786 : BitVec 32 := Scalar.muli v13 c1_i32_3978
  let v2787 : BitVec 32 := Scalar.addi c0_i32_3979 v2786
  v2787.toNat
def k0_dev99 (d0 : Dev nD) : Nat :=
  let c0_i32_4043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4042 : BitVec 32 := 1#32
  let v2849 : BitVec 32 := Scalar.muli v24 c1_i32_4042
  let v2850 : BitVec 32 := Scalar.addi c0_i32_4043 v2849
  v2850.toNat
def k0_dev100 (d0 : Dev nD) : Nat :=
  let c0_i32_4083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4082 : BitVec 32 := 1#32
  let v2874 : BitVec 32 := Scalar.muli v13 c1_i32_4082
  let v2875 : BitVec 32 := Scalar.addi c0_i32_4083 v2874
  v2875.toNat
def k0_dev101 (d0 : Dev nD) : Nat :=
  let c0_i32_4123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4122 : BitVec 32 := 1#32
  let v2899 : BitVec 32 := Scalar.muli v24 c1_i32_4122
  let v2900 : BitVec 32 := Scalar.addi c0_i32_4123 v2899
  v2900.toNat
def k0_dev102 (d0 : Dev nD) : Nat :=
  let c0_i32_4163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4162 : BitVec 32 := 1#32
  let v2924 : BitVec 32 := Scalar.muli v13 c1_i32_4162
  let v2925 : BitVec 32 := Scalar.addi c0_i32_4163 v2924
  v2925.toNat
def k0_dev103 (d0 : Dev nD) : Nat :=
  let c0_i32_4203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4202 : BitVec 32 := 1#32
  let v2949 : BitVec 32 := Scalar.muli v24 c1_i32_4202
  let v2950 : BitVec 32 := Scalar.addi c0_i32_4203 v2949
  v2950.toNat
def k0_dev104 (d0 : Dev nD) : Nat :=
  let c0_i32_4243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4242 : BitVec 32 := 1#32
  let v2974 : BitVec 32 := Scalar.muli v13 c1_i32_4242
  let v2975 : BitVec 32 := Scalar.addi c0_i32_4243 v2974
  v2975.toNat
def k0_dev105 (d0 : Dev nD) : Nat :=
  let c0_i32_4283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4282 : BitVec 32 := 1#32
  let v2999 : BitVec 32 := Scalar.muli v24 c1_i32_4282
  let v3000 : BitVec 32 := Scalar.addi c0_i32_4283 v2999
  v3000.toNat
def k0_dev106 (d0 : Dev nD) : Nat :=
  let c0_i32_4323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4322 : BitVec 32 := 1#32
  let v3024 : BitVec 32 := Scalar.muli v13 c1_i32_4322
  let v3025 : BitVec 32 := Scalar.addi c0_i32_4323 v3024
  v3025.toNat
def k0_dev107 (d0 : Dev nD) : Nat :=
  let c0_i32_4387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4386 : BitVec 32 := 1#32
  let v3087 : BitVec 32 := Scalar.muli v24 c1_i32_4386
  let v3088 : BitVec 32 := Scalar.addi c0_i32_4387 v3087
  v3088.toNat
def k0_dev108 (d0 : Dev nD) : Nat :=
  let c0_i32_4427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4426 : BitVec 32 := 1#32
  let v3112 : BitVec 32 := Scalar.muli v13 c1_i32_4426
  let v3113 : BitVec 32 := Scalar.addi c0_i32_4427 v3112
  v3113.toNat
def k0_dev109 (d0 : Dev nD) : Nat :=
  let c0_i32_4467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4466 : BitVec 32 := 1#32
  let v3137 : BitVec 32 := Scalar.muli v24 c1_i32_4466
  let v3138 : BitVec 32 := Scalar.addi c0_i32_4467 v3137
  v3138.toNat
def k0_dev110 (d0 : Dev nD) : Nat :=
  let c0_i32_4507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4506 : BitVec 32 := 1#32
  let v3162 : BitVec 32 := Scalar.muli v13 c1_i32_4506
  let v3163 : BitVec 32 := Scalar.addi c0_i32_4507 v3162
  v3163.toNat
def k0_dev111 (d0 : Dev nD) : Nat :=
  let c0_i32_4547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4546 : BitVec 32 := 1#32
  let v3187 : BitVec 32 := Scalar.muli v24 c1_i32_4546
  let v3188 : BitVec 32 := Scalar.addi c0_i32_4547 v3187
  v3188.toNat
def k0_dev112 (d0 : Dev nD) : Nat :=
  let c0_i32_4587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4586 : BitVec 32 := 1#32
  let v3212 : BitVec 32 := Scalar.muli v13 c1_i32_4586
  let v3213 : BitVec 32 := Scalar.addi c0_i32_4587 v3212
  v3213.toNat
def k0_dev113 (d0 : Dev nD) : Nat :=
  let c0_i32_4627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4626 : BitVec 32 := 1#32
  let v3237 : BitVec 32 := Scalar.muli v24 c1_i32_4626
  let v3238 : BitVec 32 := Scalar.addi c0_i32_4627 v3237
  v3238.toNat
def k0_dev114 (d0 : Dev nD) : Nat :=
  let c0_i32_4667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4666 : BitVec 32 := 1#32
  let v3262 : BitVec 32 := Scalar.muli v13 c1_i32_4666
  let v3263 : BitVec 32 := Scalar.addi c0_i32_4667 v3262
  v3263.toNat
def k0_dev115 (d0 : Dev nD) : Nat :=
  let c0_i32_4731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4730 : BitVec 32 := 1#32
  let v3325 : BitVec 32 := Scalar.muli v24 c1_i32_4730
  let v3326 : BitVec 32 := Scalar.addi c0_i32_4731 v3325
  v3326.toNat
def k0_dev116 (d0 : Dev nD) : Nat :=
  let c0_i32_4771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4770 : BitVec 32 := 1#32
  let v3350 : BitVec 32 := Scalar.muli v13 c1_i32_4770
  let v3351 : BitVec 32 := Scalar.addi c0_i32_4771 v3350
  v3351.toNat
def k0_dev117 (d0 : Dev nD) : Nat :=
  let c0_i32_4811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4810 : BitVec 32 := 1#32
  let v3375 : BitVec 32 := Scalar.muli v24 c1_i32_4810
  let v3376 : BitVec 32 := Scalar.addi c0_i32_4811 v3375
  v3376.toNat
def k0_dev118 (d0 : Dev nD) : Nat :=
  let c0_i32_4851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4850 : BitVec 32 := 1#32
  let v3400 : BitVec 32 := Scalar.muli v13 c1_i32_4850
  let v3401 : BitVec 32 := Scalar.addi c0_i32_4851 v3400
  v3401.toNat
def k0_dev119 (d0 : Dev nD) : Nat :=
  let c0_i32_4891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4890 : BitVec 32 := 1#32
  let v3425 : BitVec 32 := Scalar.muli v24 c1_i32_4890
  let v3426 : BitVec 32 := Scalar.addi c0_i32_4891 v3425
  v3426.toNat
def k0_dev120 (d0 : Dev nD) : Nat :=
  let c0_i32_4931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4930 : BitVec 32 := 1#32
  let v3450 : BitVec 32 := Scalar.muli v13 c1_i32_4930
  let v3451 : BitVec 32 := Scalar.addi c0_i32_4931 v3450
  v3451.toNat
def k0_dev121 (d0 : Dev nD) : Nat :=
  let c0_i32_4971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4970 : BitVec 32 := 1#32
  let v3475 : BitVec 32 := Scalar.muli v24 c1_i32_4970
  let v3476 : BitVec 32 := Scalar.addi c0_i32_4971 v3475
  v3476.toNat
def k0_dev122 (d0 : Dev nD) : Nat :=
  let c0_i32_5011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5010 : BitVec 32 := 1#32
  let v3500 : BitVec 32 := Scalar.muli v13 c1_i32_5010
  let v3501 : BitVec 32 := Scalar.addi c0_i32_5011 v3500
  v3501.toNat
def k0_dev123 (d0 : Dev nD) : Nat :=
  let c0_i32_7013_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7012_r0 : BitVec 32 := 1#32
  let v4373_r0 : BitVec 32 := Scalar.muli v13 c1_i32_7012_r0
  let v4374_r0 : BitVec 32 := Scalar.addi c0_i32_7013_r0 v4373_r0
  v4374_r0.toNat
def k0_dev124 (d0 : Dev nD) : Nat :=
  let c0_i32_7016_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7015_r0 : BitVec 32 := 1#32
  let v4375_r0 : BitVec 32 := Scalar.muli v24 c1_i32_7015_r0
  let v4376_r0 : BitVec 32 := Scalar.addi c0_i32_7016_r0 v4375_r0
  v4376_r0.toNat
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/- The kernel's body as loops.

The printed body is one straight line of about a thousand memory operations, cut into parts. Here the same
operations are written as loops over the steps of the ring and over the strips, and the two are shown equal. -/
module

public import proofs.«01_k».proof.Proof.Gen.KernelIdeal.Skeleton
public import Idealize.ShloMosaic.Lib.Pipeline.Regions

@[expose] public section

noncomputable section

namespace Cert.Ring

open Idealize.ShloMosaic Idealize.SL.Sem
open Cert.KernelIdeal Cert.KernelIdeal.Gen

variable {F : FTy → Type} [FloatOps F]

/-- A program of the kernel on a TensorCore. -/
abbrev Kern (F : FTy → Type) [FloatOps F] (α : Type) : Type 1 := Prog (TpuEff nD τ sig (Elt F) Λ₀ .tc) α

/-! ## Positions -/

/-- Slot `s` of strip `t` lies in the communication buffer. -/
theorem slot_inb (t : Fin 8) (s : Fin 16) : ∀ a, (![t.val, s.val, 0, 0] : Fin 4 → Nat) a + S1x1x128x256.size a ≤ S8x16x128x256.size a := by
  revert t s; decide
/-- Semaphore `(k, t, s)` lies in the semaphore array. -/
theorem sem_inb (k : Fin 2) (t : Fin 8) (s : Fin 16) : ∀ a, (![k.val, t.val, s.val] : Fin 3 → Nat) a + S1x1x1.size a ≤ S2x8x16.size a := by
  revert k t s; decide
/-- Strip `t` of the result lies in it. -/
theorem out_inb (t : Fin 8) : ∀ a, (![0, t.val * 256] : Fin 2 → Nat) a + S128x256.size a ≤ S128x2048.size a := by
  revert t; decide
/-- Half `h` of the weights lies in them. -/
theorem half_inb (h : Fin 2) : ∀ a, (![0, h.val * 1024] : Fin 2 → Nat) a + S128x1024.size a ≤ S128x2048.size a := by
  revert h; decide
/-- Strip `u` of half a product lies in it. -/
theorem strip_slices (u : Fin 4) : S128x1024.Slices ![0, u.val * 256] S128x256 := by
  revert u; decide

/-- The rectangle of slot `s` of strip `t`. -/
abbrev slotR (t : Fin 8) (s : Fin 16) : Rect S8x16x128x256 := Rect.unit (s := S8x16x128x256) ![t.val, s.val, 0, 0] S1x1x128x256.size (slot_inb t s)
/-- The rectangle of strip `t` of the result. -/
abbrev outR (t : Fin 8) : Rect S128x2048 := Rect.unit (s := S128x2048) ![0, t.val * 256] S128x256.size (out_inb t)
/-- The rectangle of half `h` of the weights. -/
abbrev halfR (h : Fin 2) : Rect S128x2048 := Rect.unit (s := S128x2048) ![0, h.val * 1024] S128x1024.size (half_inb h)
/-- Slot `s` of strip `t`, as the transfers address it. -/
abbrev slotM (comm : Memref sig .tc .vmem S8x16x128x256 .f32) (t : Fin 8) (s : Fin 16) : Memref sig .tc .vmem S128x256 .f32 :=
  (comm.slice (slotR t s) (fun _ => rfl)).squeeze S128x256 squeezes_S1x1x128x256_S128x256
/-- The semaphore `(k, t, s)`: `k = 0` completes a sender's transfer, `k = 1` a receiver's. -/
abbrev semM (sems : DmaSems sig S2x8x16) (k : Fin 2) (t : Fin 8) (s : Fin 16) : DmaSem sig :=
  ((sems.slice (Rect.unit (s := S2x8x16) ![k.val, t.val, s.val] S1x1x1.size (sem_inb k t s))).squeeze S_ squeezes_S1x1x1_S_).sem

/-! ## Values -/

/-- A device's product of a block of rows with half of its weights. -/
def prod (x : Vec F S128x128 .f32) (w : Vec F S128x1024 .f32) : FVec F S128x1024 .f32 :=
  matmul dot_S128x128_S128x1024_S128x1024_1_0_0_1_n_n none (shapeCast S128x128 x shapeCasts_S128x128_S128x128)
    (shapeCast S128x1024 w shapeCasts_S128x1024_S128x1024) (constant S128x1024 .f32 0x00000000#32)

/-- The half that strip `t` belongs to: strips 0 to 3 to the left half, 4 to 7 to the right. -/
def ofHalf {α : Type} (t : Fin 8) (l r : α) : α := if t.val < 4 then l else r
/-- Strip `t` of the two half products. -/
def strip (l r : FVec F S128x1024 .f32) (t : Fin 8) : FVec F S128x256 .f32 :=
  extractStridedSlice S128x256 ![0, (⟨t.val % 4, Nat.mod_lt _ (by decide)⟩ : Fin 4).val * 256] (ofHalf t l r) (strip_slices ⟨t.val % 4, Nat.mod_lt _ (by decide)⟩)
/-- A slot's contents plus strip `t` of the half products. -/
def plus (l r : FVec F S128x1024 .f32) (t : Fin 8) (v : Vec F S1x1x128x256 .f32) : FVec F S128x256 .f32 :=
  addf (shapeCast S128x256 v shapeCasts_S1x1x128x256_S128x256) (strip l r t)
/-- A strip shaped as a slot. -/
def asSlot (v : FVec F S128x256 .f32) : FVec F S1x1x128x256 .f32 := shapeCast S1x1x128x256 v shapeCasts_S128x256_S1x1x128x256

/-! ## The program -/

/-- Do `f` for every element of a list, in order. -/
def each {α : Type} (f : α → Kern F PUnit) : List α → Kern F PUnit
  | [] => pure ⟨⟩
  | a :: l => f a >>= fun _ => each f l

/-- The neighbour that strip `t` is sent to. -/
def dest (c : Dev nD) (t : Fin 8) : Dev nD := ofHalf t ⟨k0_dev3 c, k0_dev3_lt c⟩ ⟨k0_dev4 c, k0_dev4_lt c⟩

section
variable (x : Memref sig .tc .vmem S2048x128 .f32) (w : Memref sig .tc .vmem S128x2048 .f32) (out : Memref sig .tc .vmem S128x2048 .f32)
  (comm : Memref sig .tc .vmem S8x16x128x256 .f32) (sems : DmaSems sig S2x8x16) (bar2 : Sems sig S_) (c : Dev nD)

/-- One half product: the rows of `x` at `o`, times half `h` of the weights. -/
def half (o : Fin 2 → Nat) (ho : ∀ a, o a + S128x128.size a ≤ S2048x128.size a) (h : Fin 2) : Kern F (FVec F S128x1024 .f32) := do
  let a : Vec F S128x128 .f32 ← Prog.lift (.load x (Rect.unit (s := S2048x128) o S128x128.size ho).toLoadRect (View.loadsAt_vmem h_S128x128))
  let b : Vec F S128x1024 .f32 ← Prog.lift (.load w (halfR h).toLoadRect (View.loadsAt_vmem h_S128x1024))
  pure (prod a b)

/-- Start the transfer of slot `s` of strip `t` to slot `s + 1` of device `d`, completed on the semaphores `q` here and `q'` there. -/
def sendTo (q q' : DmaSem sig) (d : Dev nD) (t : Fin 8) (s : Fin 15) : Kern F PUnit :=
  Prog.lift (.enqueueDma (slotM comm t s.castSucc) (.remote (Dev.tc d) (slotM comm t s.succ) (.dma q))
    (.dma q') ((View.wordExact_bits rfl).reshape _ _) ((View.wordExact_bits rfl).reshape _ _) ⟨⟨rfl, Or.inl rfl⟩, trivial⟩)

/-- Start that transfer to the neighbour that strip `t` goes to. -/
def send (t : Fin 8) (s : Fin 15) : Kern F PUnit :=
  sendTo comm (semM sems 0 t s.castSucc) (semM sems 1 t s.castSucc) (dest c t) t s

/-- Write a slot (the kernel reads it first). -/
def put (t : Fin 8) (s : Fin 16) (v : FVec F S1x1x128x256 .f32) : Kern F PUnit := do
  let _ : Vec F S1x1x128x256 .f32 ← Prog.lift (.load comm (slotR t s).toLoadRect (View.loadsAt_vmem h_S1x1x128x256))
  Prog.lift (.store comm (slotR t s) v Finset.univ (View.stores_vmem_bits_univ h_S1x1x128x256 rfl) (.inl rfl))

/-- The first slot of strip `t`: the device's own product, sent on. -/
def first (l r : FVec F S128x1024 .f32) (t : Fin 8) : Kern F PUnit := do
  put comm t 0 (asSlot (strip l r t))
  send comm sems c t 0

/-- Wait for slot `s + 1` of strip `t`. -/
def recv (t : Fin 8) (s : Fin 15) : Kern F (Vec F S1x1x128x256 .f32) := do
  Prog.lift (.waitDma2 (semM sems 1 t s.castSucc) (slotM comm t s.castSucc) (slotM comm t s.succ) ((View.wordExact_bits rfl).reshape _ _) ((View.wordExact_bits rfl).reshape _ _))
  Prog.lift (.load comm (slotR t s.succ).toLoadRect (View.loadsAt_vmem h_S1x1x128x256))

/-- A step before the last, at strip `t`: receive, add, send on. -/
def next (l r : FVec F S128x1024 .f32) (s : Fin 14) (t : Fin 8) : Kern F PUnit := do
  let v ← recv comm sems t s.castSucc
  put comm t s.succ.castSucc (asSlot (plus l r t v))
  send comm sems c t s.succ

/-- The last step, at strip `t`: receive, add, write the result (the kernel reads it first). -/
def last (l r : FVec F S128x1024 .f32) (t : Fin 8) : Kern F PUnit := do
  let v ← recv comm sems t (Fin.last 14)
  let _ : Vec F S128x256 .f32 ← Prog.lift (.load out (outR t).toLoadRect (View.loadsAt_vmem h_S128x256))
  Prog.lift (.store out (outR t) (plus l r t v) Finset.univ (View.stores_vmem_bits_univ h_S128x256 rfl) (.inl rfl))

/-- The order in which the kernel goes through the strips. -/
abbrev order : List (Fin 8) := [0, 4, 1, 5, 2, 6, 3, 7]
/-- The steps before the last. -/
abbrev steps : List (Fin 14) := [0, 1, 2, 3, 4, 5, 6, 7, 8, 9, 10, 11, 12, 13]
/-- The transfers of one strip. -/
abbrev sends : List (Fin 15) := [0, 1, 2, 3, 4, 5, 6, 7, 8, 9, 10, 11, 12, 13, 14]
/-- The strips. -/
abbrev strips : List (Fin 8) := [0, 1, 2, 3, 4, 5, 6, 7]

/-- Greet both neighbours on a semaphore and wait for both. -/
def greet (bar : Sem sig) (d₁ d₂ : Dev nD) : Kern F PUnit := do
  semSignalWord d₁ bar 1#32
  semSignalWord d₂ bar 1#32
  semWaitWord bar 2#32

/-- Step `s` of the ring before the last one. -/
def step (s : Fin 14) : Kern F PUnit := do
  let l ← half x w (k0_off3 c (BitVec.ofNat 32 s.castSucc.val)) (k0_off3_inb c s.castSucc) 0
  let r ← half x w (k0_off4 c (BitVec.ofNat 32 s.castSucc.val)) (k0_off4_inb c s.castSucc) 1
  each (next comm sems c l r s) order

/-- The first products, put into the first slots and sent. -/
def opening : Kern F PUnit := do
  let l ← half x w (k0_off1 c) (k0_off1_inb c) 0
  let r ← half x w (k0_off2 c) (k0_off2_inb c) 1
  each (first comm sems c l r) order

/-- The last step of the ring. -/
def closing : Kern F PUnit := do
  let l ← half x w (k0_off3 c (BitVec.ofNat 32 (Fin.last 14).val)) (k0_off3_inb c (Fin.last 14)) 0
  let r ← half x w (k0_off4 c (BitVec.ofNat 32 (Fin.last 14).val)) (k0_off4_inb c (Fin.last 14)) 1
  each (last out comm sems l r) order

/-- Wait until transfer `s` of strip `t` has left. -/
def sent (t : Fin 8) (s : Fin 15) : Kern F PUnit :=
  Prog.lift (.waitDma2 (semM sems 0 t s.castSucc) (slotM comm t s.succ) (slotM comm t s.castSucc) ((View.wordExact_bits rfl).reshape _ _) ((View.wordExact_bits rfl).reshape _ _))

/-- The kernel's body on device `c`. -/
def body : Kern F PUnit := do
  greet (SemArray.scalar (sig.barrier 0 rfl) : Sems sig S_).sem ⟨k0_dev1 c, k0_dev1_lt c⟩ ⟨k0_dev2 c, k0_dev2_lt c⟩
  opening x w comm sems c
  each (step x w comm sems c) steps
  closing x w out comm sems c
  each (fun t => each (sent comm sems t) sends) strips
  greet bar2.sem ⟨k0_dev123 c, k0_dev123_lt c⟩ ⟨k0_dev124 c, k0_dev124_lt c⟩

end

set_option maxRecDepth 100000 in
/-- The printed body is the loops' body. -/
theorem cc0_body_eq (x : Memref sig .tc .vmem S2048x128 .f32) (hx : x.IsWhole) (w : Memref sig .tc .vmem S128x2048 .f32) (hw : w.IsWhole)
    (out : Memref sig .tc .vmem S128x2048 .f32) (hout : out.IsWhole) (comm : Memref sig .tc .vmem S8x16x128x256 .f32) (hcomm : comm.IsWhole)
    (sems : DmaSems sig S2x8x16) (bar2 : Sems sig S_) :
    cc0_body (F := F) x hx w hw out hout comm hcomm sems bar2 = (Prog.lift .deviceId >>= fun c => body x w out comm sems bar2 c : Kern F PUnit) := by
  chain_rfl

end Cert.Ring

end
-- ==== Proof.Protocol.lean ====
/- The ring's protocol: cells, contents, schedule, debts and levels.

Sixteen devices stand in a ring. Strips 0 to 3 of the running sums travel to the next device, strips 4 to 7 to the
previous one. Before anything is sent each device greets both neighbours, and with the greeting lends each of
them the slots that it will write. Every transfer has two cells: one at the sender, which gives the sender its slot
back, and one at the receiver, which gives the receiver the slot holding the sum so far. -/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Rounds.Family
public import Idealize.ShloMosaic.Lib.Ring
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own rounds, and the ring's, whose duties are named by booleans. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## The ring -/

/-- The next device, and the previous one. -/
def nxt (c : Dev nD) : Dev nD := ⟨(c.val + 1) % 16, Nat.mod_lt _ (by decide)⟩
@[inherit_doc nxt] def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

/-- One step around the ring. -/
def ring : Dev nD ≃ Dev nD := ⟨nxt, prv, prv_nxt, nxt_prv⟩

/-- Where a device sends strip `t`: strips of the left half go on, strips of the right half go back. -/
def road (t : Fin 8) : Dev nD ≃ Dev nD := ofHalf t ring ring.symm
abbrev dst (c : Dev nD) (t : Fin 8) : Dev nD := road t c
/-- Where strip `t` comes from. -/
abbrev src (c : Dev nD) (t : Fin 8) : Dev nD := (road t).symm c

theorem dst_src (c : Dev nD) (t : Fin 8) : dst (src c t) t = c := (road t).apply_symm_apply c
theorem src_dst (c : Dev nD) (t : Fin 8) : src (dst c t) t = c := (road t).symm_apply_apply c

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = prv c := by decide +kernel
theorem dev123_eq : ∀ c : Dev nD, (⟨k0_dev123 c, k0_dev123_lt c⟩ : Dev nD) = prv c := by decide +kernel
theorem dev124_eq : ∀ c : Dev nD, (⟨k0_dev124 c, k0_dev124_lt c⟩ : Dev nD) = nxt c := by decide +kernel

/-- The device that the program sends strip `t` to is the ring's. -/
theorem dest_eq (c : Dev nD) (t : Fin 8) : dest c t = dst c t := by
  show dest c t = road t c
  unfold dest road ofHalf
  by_cases h : t.val < 4
  · rw [if_pos h, if_pos h, dev3_eq]; rfl
  · rw [if_neg h, if_neg h, dev4_eq]; rfl

/-! ## The blocks of rows -/

/-- The block of rows that device `c` multiplies at step `n` for the left half, and for the right half. -/
def chunkL (c : Dev nD) (n : ℕ) : Fin 16 := ⟨(c.val + 15 * (n + 1)) % 16, Nat.mod_lt _ (by decide)⟩
@[inherit_doc chunkL] def chunkR (c : Dev nD) (n : ℕ) : Fin 16 := ⟨(c.val + (n + 1)) % 16, Nat.mod_lt _ (by decide)⟩

/-- Where block `b` of the rows begins. -/
abbrev rowO (b : Fin 16) : Fin 2 → ℕ := ![b.val * 128, 0]
/-- Block `b` of the rows lies in them. -/
theorem row_inb (b : Fin 16) : ∀ a, rowO b a + S128x128.size a ≤ S2048x128.size a := by revert b; decide
abbrev rowR (b : Fin 16) : Rect S2048x128 := Rect.unit (s := S2048x128) (rowO b) S128x128.size (row_inb b)

theorem off1_eq : ∀ c : Dev nD, k0_off1 c = rowO (chunkL c 0) := by decide +kernel
theorem off2_eq : ∀ c : Dev nD, k0_off2 c = rowO (chunkR c 0) := by decide +kernel
theorem off3_eq : ∀ (c : Dev nD) (s : Fin 15), k0_off3 c (BitVec.ofNat 32 s.val) = rowO (chunkL c (s.val + 1)) := by decide +kernel
theorem off4_eq : ∀ (c : Dev nD) (s : Fin 15), k0_off4 c (BitVec.ofNat 32 s.val) = rowO (chunkR c (s.val + 1)) := by decide +kernel

/-! ## The memrefs and cells -/

abbrev xM : Memref sig .tc .vmem S2048x128 .f32 := Memref.whole cc0_stg0_0
abbrev wM : Memref sig .tc .vmem S128x2048 .f32 := Memref.whole cc0_stg1_0
abbrev oM : Memref sig .tc .vmem S128x2048 .f32 := Memref.whole cc0_stg2_0
abbrev cM : Memref sig .tc .vmem S8x16x128x256 .f32 := Memref.whole cc0_scratch0
/-- Slot `s` of strip `t`. -/
abbrev slot (t : Fin 8) (s : Fin 16) : Memref sig .tc .vmem S128x256 .f32 := slotM cM t s

/-- The first greeting's semaphore, the second's, and the transfers'. -/
abbrev barS : Sem sig := (SemArray.scalar (sig.barrier 0 rfl) : Sems sig S_).sem
abbrev bar2S : Sem sig := (cc0_scoped0 : Sems sig S_).sem
abbrev xferS (k : Fin 2) (t : Fin 8) (s : Fin 15) : DmaSem sig := semM cc0_scratch1 k t s.castSucc

/-- The transfers' cells: which end, which strip, which slot. -/
abbrev DK : Type := Fin 2 × Fin 8 × Fin 15
/-- The kernel's own cells: the second greeting's and the transfers'. -/
abbrev OK : Type := Option DK
/-- All cells of the ring: the first greeting's and the kernel's own. -/
abbrev CK : Type := Option OK

def osem : OK → SemLoc sig
  | none => .reg bar2S
  | some (k, t, s) => .dma (xferS k t s)
def csem : CK → SemLoc sig
  | none => .reg barS
  | some k => osem k
/-- Cell `k` of device `c`. -/
abbrev kcell (ck : Dev nD × CK) : GSem nD τ sig := ((ck.1 : Thread nD τ), csem ck.2)
abbrev barCell (c : Dev nD) : GSem nD τ sig := kcell (c, none)
abbrev bar2Cell (c : Dev nD) : GSem nD τ sig := kcell (c, some none)
abbrev sendCell (c : Dev nD) (t : Fin 8) (s : Fin 15) : GSem nD τ sig := kcell (c, some (some (0, t, s)))
abbrev recvCell (c : Dev nD) (t : Fin 8) (s : Fin 15) : GSem nD τ sig := kcell (c, some (some (1, t, s)))

theorem xferS_val : ∀ (k : Fin 2) (t : Fin 8) (s : Fin 15), (xferS k t s : DmaSem sig).val = 3 + (k.val * 128 + t.val * 16 + s.val) := by
  decide +kernel
theorem bar_ne_bar2 : (SemLoc.reg barS : SemLoc sig) ≠ .reg bar2S := by decide

/-- Different transfers have different semaphores. -/
theorem xferS_inj {k k' : Fin 2} {t t' : Fin 8} {s s' : Fin 15} (h : xferS k t s = xferS k' t' s') : k = k' ∧ t = t' ∧ s = s' := by
  have := congrArg Fin.val h
  rw [xferS_val, xferS_val] at this
  refine ⟨Fin.ext ?_, Fin.ext ?_, Fin.ext ?_⟩ <;> omega

theorem osem_injective : Function.Injective osem
  | none, none, _ => rfl
  | none, some (k, t, s), h => by unfold osem at h; cases h
  | some (k, t, s), none, h => by unfold osem at h; cases h
  | some (k, t, s), some (k', t', s'), h => by
    obtain ⟨rfl, rfl, rfl⟩ := xferS_inj (SemLoc.dma.inj h); rfl

theorem csem_injective : Function.Injective csem
  | none, none, _ => rfl
  | none, some none, h => absurd h bar_ne_bar2
  | some none, none, h => absurd h.symm bar_ne_bar2
  | none, some (some (k, t, s)), h => by unfold csem osem at h; cases h
  | some (some (k, t, s)), none, h => by unfold csem osem at h; cases h
  | some k, some k', h => congrArg some (osem_injective h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which of the ring's cells a cell is. -/
def role (g : GSem nD τ sig) : Option CK := if g.1.2 = .tc then Function.partialInv csem g.2 else none
theorem role_kcell (c : Dev nD) (k : CK) : role (kcell (c, k)) = some k := by
  unfold role; rw [if_pos rfl]; exact Function.partialInv_left csem_injective k
theorem role_none {g : GSem nD τ sig} (h : ∀ k, csem k ≠ g.2) : role g = none := by
  unfold role; split
  · unfold Function.partialInv; exact dif_neg fun ⟨k, hk⟩ => h k hk
  · rfl

/-- The credit of one transfer. -/
abbrev N : ℕ := (slot 0 0).view.dmaCredit
theorem N_pos : 0 < N := View.dmaCredit_pos _ (by decide)
theorem amount_slot (t : Fin 8) (s : Fin 16) (q : DmaSem sig) : (slot t s).view.amount (.dma q) = N := rfl

/-! ## Contents -/

/-- The operands as the kernel finds them on device `c`. -/
def xAt (c : Dev nD) : (cc0_stg0_0 : Ref sig .tc).ty.Contents (Elt F) :=
  (win0_0.blk (0 : Fin 1)).view.read (Elt F) ((s₀ m ρ).mem ((c : Thread nD τ).loc main_arg0))
@[inherit_doc xAt] def wAt (c : Dev nD) : (cc0_stg1_0 : Ref sig .tc).ty.Contents (Elt F) :=
  (win0_1.blk (0 : Fin 1)).view.read (Elt F) ((s₀ m ρ).mem ((c : Thread nD τ).loc main_arg1))

/-- Block `b` of device `c`'s rows, times half `h` of its weights. -/
def prodAt (c : Dev nD) (b : Fin 16) (h : Fin 2) : FVec F S128x1024 .f32 :=
  prod (xM.view.readAt (Elt F) (rowR b).toLoadRect (xAt m ρ c)) (wM.view.readAt (Elt F) (halfR h).toLoadRect (wAt m ρ c))
/-- The half products of step `n`. -/
def lAt (c : Dev nD) (n : ℕ) : FVec F S128x1024 .f32 := prodAt m ρ c (chunkL c n) 0
@[inherit_doc lAt] def rAt (c : Dev nD) (n : ℕ) : FVec F S128x1024 .f32 := prodAt m ρ c (chunkR c n) 1

/-- The running sum of strip `t` that device `c` has after step `n`. -/
def part (t : Fin 8) : ℕ → Dev nD → FVec F S128x256 .f32
  | 0, c => strip (lAt m ρ c 0) (rAt m ρ c 0) t
  | n + 1, c => addf (part t n (src c t)) (strip (lAt m ρ c (n + 1)) (rAt m ρ c (n + 1)) t)

/-- Device `c` holds slot `(t, s)` with a given value. -/
abbrev slotHas (c : Dev nD) (t : Fin 8) (s : Fin 16) (v : FVec F S128x256 .f32) : sProp 𝕄 := owns (c : Thread nD τ) (slot t s) fullShare v
/-- Slot `(t, s)` of device `c`, with some contents. -/
def slotAny (c : Dev nD) (t : Fin 8) (s : Fin 16) : sProp 𝕄 := iprop(∃ v, slotHas (F := F) c t s v)

instance slotAny_storable (c : Dev nD) (t : Fin 8) (s : Fin 16) : BI.Storable (upEmb : UEmb _ 𝕄) (slotAny (F := F) c t s) := by
  unfold slotAny; infer_instance

/-! ## The schedule -/

/-- Does strip `t` go to the next device (`true`) or to the previous one? -/
abbrev ahead (t : Fin 8) : Bool := decide (t.val < 4)

/-- The neighbour that greets with duty `d`: the next device with `true`, the previous one with `false`. -/
def greeter (c : Dev nD) : Bool → Dev nD
  | true => nxt c
  | false => prv c

/-- The slots of device `e` that strips going in direction `d` land in. -/
def lent (e : Dev nD) (d : Bool) : sProp 𝕄 :=
  bigSep (Finset.univ.filter fun t : Fin 8 => ahead t = d) fun t => bigSep Finset.univ fun s : Fin 15 => slotAny (F := F) e t s.succ

/-- What paying a cell hands over. A greeting lends the greeter's slots; a transfer gives the sender its slot back and
    the receiver the slot with the sum so far. -/
def pay (c : Dev nD) : CK → Bool → sProp 𝕄
  | none, d => lent (F := F) (greeter c d) d
  | some none, _ => iprop(emp)
  | some (some (⟨0, _⟩, t, s)), _ => slotAny (F := F) c t s.castSucc
  | some (some (⟨_ + 1, _⟩, t, s)), _ => slotHas (F := F) c t s.succ (part m ρ t s.val (src c t))

/-- The duties of a cell: two for a greeting, one for a transfer. -/
def dut : CK → Finset Bool
  | none | some none => Finset.univ
  | some (some _) => {false}
/-- The units of each. -/
def amt : CK → ℕ
  | none | some none => 1
  | some (some _) => N

theorem amt_pos : ∀ k, 0 < amt k
  | none | some none => Nat.one_pos
  | some (some _) => N_pos

instance pay_storable (c : Dev nD) : ∀ (k : CK) (d : Bool), BI.Storable (upEmb : UEmb _ 𝕄) (pay m ρ c k d)
  | none, d => by unfold pay lent; infer_instance
  | some none, _ => by unfold pay; infer_instance
  | some (some (⟨0, _⟩, t, s)), _ => by unfold pay; infer_instance
  | some (some (⟨_ + 1, _⟩, t, s)), _ => by unfold pay; infer_instance

/-- Every cell is used for one round. -/
def ringRd : Rounds.Schedule (GSem nD τ sig) Bool 𝕄 where
  duties g r := if r = 0 then (role g).elim ∅ dut else ∅
  unitless _ := False
  amount g _ _ := (role g).elim 1 amt
  payload g _ d := (role g).elim iprop(emp) fun k => pay m ρ g.1.1 k d
  amount_pos g _ _ _ := by
    cases role g with
    | none => exact Nat.one_pos
    | some k => exact amt_pos k

instance ringRd_payload_storable (g : GSem nD τ sig) (r : ℕ) (d : Bool) : BI.Storable (upEmb : UEmb _ 𝕄) ((ringRd (F := F) m ρ).payload g r d) := by
  show BI.Storable upEmb ((role g).elim iprop(emp) fun k => pay m ρ g.1.1 k d)
  cases role g with
  | none => exact inferInstanceAs (BI.Storable _ iprop(emp))
  | some k => exact inferInstanceAs (BI.Storable _ (pay m ρ g.1.1 k d))

section Sched
variable (c : Dev nD)

theorem duties_k (k : CK) : (ringRd (F := F) m ρ).duties (kcell (c, k)) 0 = dut k := by
  dsimp only [ringRd]; rw [if_pos rfl, role_kcell]; rfl
theorem duties_later (g : GSem nD τ sig) : ∀ r, 1 ≤ r → (ringRd (F := F) m ρ).duties g r = ∅ :=
  fun r hr => by dsimp only [ringRd]; rw [if_neg (by omega)]
theorem amount_k (k : CK) (d : Bool) : (ringRd (F := F) m ρ).amount (kcell (c, k)) 0 d = amt k := by
  dsimp only [ringRd]; rw [role_kcell]; rfl
theorem payload_k (k : CK) (d : Bool) : (ringRd (F := F) m ρ).payload (kcell (c, k)) 0 d = pay m ρ c k d := by
  dsimp only [ringRd]; rw [role_kcell]; rfl
theorem mem_duties_xfer (x : DK) : false ∈ (ringRd (F := F) m ρ).duties (kcell (c, some (some x))) 0 := by
  rw [duties_k]; exact Finset.mem_singleton_self _

theorem expect_k (k : CK) : (ringRd (F := F) m ρ).expect (kcell (c, k)) 0 = (dut k).card * amt k := by
  unfold Schedule.expect Schedule.amountOf
  rw [duties_k, Finset.sum_congr rfl fun d _ => amount_k m ρ c k d, Finset.sum_const, smul_eq_mul]
theorem expect_xfer (x : DK) : (ringRd (F := F) m ρ).expect (kcell (c, some (some x))) 0 = N := by
  rw [expect_k]; exact Nat.one_mul _
theorem expect_bar : (ringRd (F := F) m ρ).expect (barCell c) 0 = 2 := by rw [expect_k]; rfl
theorem expect_bar2 : (ringRd (F := F) m ρ).expect (bar2Cell c) 0 = 2 := by rw [expect_k]; rfl

/-- All that a cell's round hands over. -/
theorem rest_k (k : CK) : bigSep ((ringRd (F := F) m ρ).duties (kcell (c, k)) 0 \ ∅) (fun d => (ringRd (F := F) m ρ).payload (kcell (c, k)) 0 d)
    = bigSep (dut k) fun d => pay m ρ c k d := by
  rw [Finset.sdiff_empty, duties_k]; exact bigSep_congr fun d _ => payload_k m ρ c k d
theorem rest_send (t : Fin 8) (s : Fin 15) : bigSep ((ringRd (F := F) m ρ).duties (sendCell c t s) 0 \ ∅)
    (fun d => (ringRd (F := F) m ρ).payload (sendCell c t s) 0 d) = slotAny c t s.castSucc := by
  rw [rest_k]; exact bigSep_singleton
theorem rest_recv (t : Fin 8) (s : Fin 15) : bigSep ((ringRd (F := F) m ρ).duties (recvCell c t s) 0 \ ∅)
    (fun d => (ringRd (F := F) m ρ).payload (recvCell c t s) 0 d) = slotHas c t s.succ (part m ρ t s.val (src c t)) := by
  rw [rest_k]; exact bigSep_singleton
theorem rest_bar : bigSep ((ringRd (F := F) m ρ).duties (barCell c) 0 \ ∅)
    (fun d => (ringRd (F := F) m ρ).payload (barCell c) 0 d) = iprop(lent (F := F) (nxt c) true ∗ lent (F := F) (prv c) false) := by
  rw [rest_k]; show bigSep Finset.univ _ = _
  rw [bigSep_univ_eq_bigSepL [true, false] (by decide) (by decide), bigSepL_cons_cons, bigSepL_singleton]; rfl

end Sched

/-- Strips going in direction `d` are written at the greeter with duty `d`. -/
theorem dst_of_ahead (c : Dev nD) (t : Fin 8) (d : Bool) (h : ahead t = d) : dst c t = greeter c d := by
  subst h
  show road t c = greeter c (ahead t)
  unfold road ofHalf
  by_cases h : t.val < 4
  · rw [if_pos h, show ahead t = true from decide_eq_true h]; rfl
  · rw [if_neg h, show ahead t = false from decide_eq_false h]; rfl

/-- The slots that the greeting with duty `d` lends to device `c`, by the device that owns them. -/
theorem lent_dir (c : Dev nD) (d : Bool) : lent (F := F) (greeter c d) d
    = (bigSep (Finset.univ.filter fun t : Fin 8 => ahead t = d) fun t => bigSep Finset.univ fun s : Fin 15 => slotAny (F := F) (dst c t) t s.succ : sProp 𝕄) := by
  unfold lent
  exact bigSep_congr fun t ht => by rw [dst_of_ahead c t d (Finset.mem_filter.mp ht).2]

/-- The slots lent to device `c` are those that its transfers write. -/
theorem lent_dst (c : Dev nD) : iprop(lent (F := F) (nxt c) true ∗ lent (F := F) (prv c) false)
    ⊢ (bigSep Finset.univ fun t : Fin 8 => bigSep Finset.univ fun s : Fin 15 => slotAny (F := F) (dst c t) t s.succ : sProp 𝕄) := by
  rw [bigSep_filter_split Finset.univ (fun t : Fin 8 => ahead t = true),
    show (Finset.univ.filter fun t : Fin 8 => ¬ ahead t = true) = Finset.univ.filter fun t : Fin 8 => ahead t = false from by decide]
  exact Idealize.SL.BI.sep_mono (Entails.of_eq (lent_dir c true)) (Entails.of_eq (lent_dir c false))

/-! ## Debts and levels -/

/-- A debt: units owed to a cell of the device that `via` leads to. -/
structure Debt where
  via : Dev nD ≃ Dev nD
  cell : CK
  units : ℕ

/-- The tally of device `c`'s debt. -/
abbrev Debt.tally (x : Debt) (c : Dev nD) : CellTallies nD τ sig Unit := tallyAt (kcell (x.via c, x.cell)) () x.units
/-- The tally of a list of debts; the first is the first to be paid. -/
def owedL : List Debt → Dev nD → CellTallies nD τ sig Unit
  | [], _ => 0
  | x :: l, c => owedL l c + x.tally c

/-- The debts of the greetings. -/
def greets (k : CK) : List Debt := [⟨ring.symm, k, 1⟩, ⟨ring, k, 1⟩]
/-- The debt of transfer `s` of strip `t`. -/
def debt (s : Fin 15) (t : Fin 8) : Debt := ⟨road t, some (some (1, t, s)), N⟩
/-- The debts of the transfers `s` of all strips. -/
abbrev debts (s : Fin 15) : List Debt := order.map (debt s)
/-- Every debt of the kernel after the first greeting. -/
def later : List Debt := debts 0 ++ ((steps.map Fin.succ).flatMap debts ++ greets (some none))
/-- Every debt of the kernel. -/
def allDebts : List Debt := greets none ++ later

abbrev O₀ (c : Dev nD) : CellTallies nD τ sig Unit := owedL allDebts c

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a cell of the ring: the first greeting, then the receivers' cells step by step, then the second greeting.
    The senders' cells and all others are at level 0. -/
def level : CK → ℕ
  | none => 1
  | some none => 100
  | some (some (k, t, s)) => if k.val = 1 then 2 + s.val else 0
def lv (g : GSem nD τ sig) (_ : Unit) : ℕ := (role g).elim 0 level

theorem lv_k (c : Dev nD) (k : CK) : lv (kcell (c, k)) () = level k := by unfold lv; rw [role_kcell]; rfl

theorem owedL_pos {l : List Debt} {c : Dev nD} {g : GSem nD τ sig} {u : Unit} (h : 0 < owedL l c g u) :
    ∃ x ∈ l, g = kcell (x.via c, x.cell) := by
  induction l with
  | nil => exact absurd h (Nat.lt_irrefl 0)
  | cons x l ih =>
    rcases Pipeline.add_pos_cases h with h | h
    · obtain ⟨y, hy, e⟩ := ih h; exact ⟨y, List.mem_cons_of_mem _ hy, e⟩
    · exact ⟨x, List.mem_cons_self, (Pipeline.tallyAt_pos h).1⟩

/-- A device may wait at a cell below all that it still owes. -/
theorem mayWait_owed (c : Dev nD) (sm : SemLoc sig) (l : List Debt) (h : ∀ x ∈ l, lv ((c : Thread nD τ), sm) () < level x.cell) :
    (levAts L lv : sProp 𝕄) ⊢ MayWait (c : Thread nD τ) sm () (owedL l c) :=
  Pipeline.mayWait_of_levAts (by rw [L_tc]; exact Finset.mem_singleton_self _) fun g i hg => by
    obtain ⟨x, hx, rfl⟩ := owedL_pos hg
    exact ⟨by rw [L_tc]; exact Finset.mem_singleton_self _, by rw [lv_k]; exact h x hx⟩

/-- A device's credit at the start: for each debt of its neighbours to it, the units. -/
theorem launchCred_owedL (l : List Debt) (c : Dev nD) :
    (Pipeline.launchCred (owedL l) c : sProp 𝕄) ⊢ bigSepL l fun x => cred (tallyAt (kcell (c, x.cell)) () x.units) := by
  induction l with
  | nil => exact Entails.of_eq (Pipeline.launchCred_zero c)
  | cons x l ih =>
    rw [bigSepL_cons']
    refine (Entails.of_eq (Pipeline.launchCred_add (owedL l) (fun d => x.tally d) c)).trans ?_
    iintro ⟨H1, H2⟩
    isplitl [H2]
    · iapply (Pipeline.launchCred_tallyAt (csem x.cell) x.via x.via.symm x.via.apply_symm_apply x.via.symm_apply_apply () x.units c)
      iexact H2
    · iapply ih; iexact H1

end Cert.Ring

end
-- ==== Proof.Steps.lean ====
/- What each piece of the kernel's loop does, in terms of the protocol. -/
module

public import proofs.«01_k».proof.Proof.Protocol
public import Idealize.ShloMosaic.Lib.Pipeline.Value

@[expose] public section

set_option maxRecDepth 10000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What must hold for a program to run on device `c` and end in `Q`. -/
abbrev wpk {α : Type} (c : Dev nD) (p : Kern F α) (Q : α → sProp 𝕄) : sProp 𝕄 :=
  wp frame (wpE (defs₀ (F := F)) 𝒱₀ (c : Thread nD τ) none) Set.univ p Q

/-! ## The shared facts -/

/-- The invariants of all cells, under the names `K`, and that every cell has reached its round. -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)

instance records_persistent (K : Dev nD × CK → ℕ) : BI.Persistent (records m ρ K) := by unfold records; infer_instance

/-- The records and the levels. -/
def ctx (K : Dev nD × CK → ℕ) : sProp 𝕄 := iprop(records m ρ K ∗ levAts L lv)

instance ctx_persistent (K : Dev nD × CK → ℕ) : BI.Persistent (ctx m ρ K) := by unfold ctx; infer_instance

/-- One cell's share of what all cells hold. -/
theorem share (Φ : Dev nD × CK → sProp 𝕄) (ck : Dev nD × CK) : bigSep Finset.univ Φ ⊢ Φ ck := bigSep_elim (Finset.mem_univ ck)

theorem ctx_inv (K : Dev nD × CK → ℕ) (ck : Dev nD × CK) : ctx m ρ K ⊢ cellInv ER (ringRd m ρ) (K ck) (kcell ck) := by
  unfold ctx records
  iintro ⟨⟨H, -⟩, -⟩
  iapply (share (fun ck : Dev nD × CK => (cellInv ER (ringRd m ρ) (K ck) (kcell ck) : sProp 𝕄)) ck); iexact H
theorem ctx_reached (K : Dev nD × CK → ℕ) (ck : Dev nD × CK) : ctx m ρ K ⊢ reached ER (kcell ck) 0 := by
  unfold ctx records
  iintro ⟨⟨-, H⟩, -⟩
  iapply (share (F := F) (fun ck : Dev nD × CK => (reached ER (kcell ck) 0 : sProp 𝕄)) ck); iexact H
theorem ctx_lev (K : Dev nD × CK → ℕ) : ctx m ρ K ⊢ levAts L lv := by
  unfold ctx
  iintro ⟨-, H⟩; iexact H

/-- A device may wait at a cell below all that it owes. -/
theorem ctx_wait (K : Dev nD × CK → ℕ) (c : Dev nD) (k : CK) (l : List Debt) (hl : ∀ y ∈ l, level k < level y.cell) :
    ctx m ρ K ⊢ MayWait (c : Thread nD τ) (csem k) () (owedL l c) :=
  BIBase.Entails.trans (ctx_lev m ρ K) (mayWait_owed (F := F) c (csem k) l fun y hy => by
    rw [show lv ((c : Thread nD τ), csem k) () = level k from lv_k c k]; exact hl y hy)

/-- Device `c` owes the debts `l`. -/
def owing (c : Dev nD) (l : List Debt) : sProp 𝕄 := iprop(∃ W, owes (c : Thread nD τ) (owedL l c) W)

/-! ## Loops -/

/-- A loop over a list: each round turns its element's share `Φ a` into `Ψ a`, and the state `I` of the rounds to come loses its head. -/
theorem wp_each {α : Type} (c : Dev nD) (f : α → Kern F PUnit) (R : α → α → Prop) (I : List α → sProp 𝕄) (Φ Ψ : α → sProp 𝕄)
    (h : ∀ (a : α) (l : List α) (Q : sProp 𝕄), (∀ b ∈ l, R a b) → iprop(Φ a ∗ I (a :: l) ∗ ((Ψ a ∗ I l) -∗ Q)) ⊢ wpk c (f a) fun _ => Q)
    (l : List α) (hl : l.Pairwise R) (Q : sProp 𝕄) :
    iprop(bigSepL l Φ ∗ I l ∗ ((bigSepL l Ψ ∗ I []) -∗ Q)) ⊢ wpk c (each f l) fun _ => Q := by
  induction l generalizing Q with
  | nil =>
    unfold each
    simp only [Prog.pure_eq_ret, wp_ret, bigSepL_nil]
    iintro ⟨H, HI, Hk⟩
    imodintro
    iapply Hk
    isplitl [H] <;> iassumption
  | cons a l ih =>
    rw [List.pairwise_cons] at hl
    unfold each wpk
    rw [wp_bind, bigSepL_cons', bigSepL_cons']
    iintro ⟨⟨Ha, Hl⟩, HI, Hk⟩
    iapply (h a l _ hl.1)
    isplitl [Ha]; · iexact Ha
    isplitl [HI]; · iexact HI
    iintro ⟨Ha, HI⟩
    iapply (ih hl.2 Q)
    isplitl [Hl]; · iexact Hl
    isplitl [HI]; · iexact HI
    iintro ⟨Hl, HI⟩
    iapply Hk
    isplitl [Ha Hl]
    · isplitl [Ha] <;> iassumption
    iexact HI

/-! ## The operands -/

/-- Device `c` holds its operands. -/
def ops (c : Dev nD) : sProp 𝕄 :=
  iprop((((c : Thread nD τ).loc cc0_stg0_0) ↦{fullShare} xAt m ρ c) ∗ (((c : Thread nD τ).loc cc0_stg1_0) ↦{fullShare} wAt m ρ c))

/-- A half product. -/
theorem wp_half (c : Dev nD) (o : Fin 2 → ℕ) (ho : ∀ a, o a + S128x128.size a ≤ S2048x128.size a) (b : Fin 16) (hb : o = rowO b) (h : Fin 2)
    (Q : FVec F S128x1024 .f32 → sProp 𝕄) :
    iprop(ops m ρ c ∗ (ops m ρ c -∗ Q (prodAt m ρ c b h))) ⊢ wpk c (half xM wM o ho h) Q := by
  subst hb
  unfold half wpk ops prodAt
  simp only [Prog.lift, Prog.bind_op, Prog.bind_ret, Prog.pure_eq_ret]
  iintro ⟨⟨Hx, Hw⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [wp_ret]; imodintro
  iapply Hk
  isplitl [Hx] <;> iassumption

/-! ## Slots -/

theorem slot_set (t : Fin 8) (s : Fin 16) : (slot t s).view.set = cM.view.setOn (slotR t s).toLoadRect.set :=
  (Memref.set_view_squeeze _ squeezes_S1x1x128x256_S128x256).trans (View.set_slice _ _)
theorem slot_access (t : Fin 8) (s : Fin 16) : (slot t s).view.set = (cM.access (slotR t s)).set :=
  Memref.set_view_squeeze _ squeezes_S1x1x128x256_S128x256

/-- A slot read as the transfers see it is a slot read as the loads see it. -/
theorem slot_read (t : Fin 8) (s : Fin 16) (f : cM.view.ty.Contents (Elt F)) :
    shapeCast S128x256 (cM.view.readAt (Elt F) (slotR t s).toLoadRect f) shapeCasts_S1x1x128x256_S128x256 = (slot t s).view.read (Elt F) f :=
  (Memref.read_squeeze_slice cM (slotR t s) (fun _ => rfl) squeezes_S1x1x128x256_S128x256 shapeCasts_S1x1x128x256_S128x256 f).symm

/-- What is stored in a slot is read back. -/
theorem slot_write (t : Fin 8) (s : Fin 16) (f : cM.view.ty.Contents (Elt F)) (v : FVec F S128x256 .f32) :
    (slot t s).view.read (Elt F) ((cM.access (slotR t s)).write (Elt F) f (asSlot v) Finset.univ) = v := by
  rw [← slot_read, View.readAt_rect]
  refine (congrArg (fun u => shapeCast S128x256 u shapeCasts_S1x1x128x256_S128x256) (View.read_write_univ (v := cM.access (slotR t s)) f (asSlot v))).trans ?_
  exact shapeCast_shapeCast v _ _

theorem slotAny_of (c : Dev nD) (t : Fin 8) (s : Fin 16) (v : FVec F S128x256 .f32) : slotHas c t s v ⊢ slotAny (F := F) c t s := by
  unfold slotAny; iintro H; iexists v; iexact H

/-- Writing a slot. -/
theorem wp_put (c : Dev nD) (t : Fin 8) (s : Fin 16) (v : FVec F S128x256 .f32) (Q : sProp 𝕄) :
    iprop(slotAny (F := F) c t s ∗ (slotHas c t s v -∗ Q)) ⊢ wpk c (put cM t s (asSlot v)) fun _ => Q := by
  unfold put wpk slotAny slotHas owns
  simp only [Prog.lift, Prog.bind_op, Prog.bind_ret, Prog.pure_eq_ret]
  iintro ⟨⟨%v₀, %f, -, H⟩, Hk⟩
  iapply (wp_load 𝒱₀ (c : Thread nD τ) none Set.univ (m := cM) (Finset.Subset.refl _)) $$ [H]
  · rw [← slot_set]; iexact H
  iintro H
  iapply (wp_store 𝒱₀ (c : Thread nD τ) none Set.univ (m := cM) (r := slotR t s) (Mk := Finset.univ) (Finset.Subset.refl _)) $$ [H]
  · rw [show (cM.access (slotR t s)).setOn Finset.univ = cM.view.setOn (slotR t s).toLoadRect.set from (slot_access t s).symm.trans (slot_set t s)]
    iexact H
  iintro H
  rw [wp_ret]; imodintro
  iapply Hk
  iexists _
  isplitr; · ipureintro; exact slot_write t s f v
  rw [slot_access]; iexact H

/-! ## Transfers -/

/-- What transfer `s` of strip `t` needs: the position of its sender's cell and the two duties that it pays. -/
def ticket (c : Dev nD) (t : Fin 8) (s : Fin 15) : sProp 𝕄 :=
  iprop(atPos ER (sendCell c t s) 0 ∅ 0 ∗ dutyTok ER (sendCell c t s) 0 false ∗ dutyTok ER (recvCell (dst c t) t s) 0 false)
/-- A transfer under way: its sender's credit and position. -/
def flying (c : Dev nD) (t : Fin 8) (s : Fin 15) : sProp 𝕄 :=
  iprop(cred (tallyAt (sendCell c t s) () N) ∗ atPos ER (sendCell c t s) 0 ∅ 0)
/-- A transfer to be received: the receiver's credit and position. -/
def coming (c : Dev nD) (t : Fin 8) (s : Fin 15) : sProp 𝕄 :=
  iprop(cred (tallyAt (recvCell c t s) () N) ∗ atPos ER (recvCell c t s) 0 ∅ 0)
/-- A transfer's sender's slot is back. -/
def gone (c : Dev nD) (t : Fin 8) (s : Fin 15) : sProp 𝕄 :=
  iprop(atPos ER (sendCell c t s) 1 ∅ 0 ∗ slotAny (F := F) c t s.castSucc)
/-- A transfer has been received. -/
def came (c : Dev nD) (t : Fin 8) (s : Fin 15) : sProp 𝕄 := atPos ER (recvCell c t s) 1 ∅ 0

/-- The slot that left is what the sender's cell holds. -/
theorem send_pays (c : Dev nD) (t : Fin 8) (s : Fin 15) (f : cM.view.ty.Contents (Elt F)) :
    (((slot t s.castSucc).view.loc (c : Thread nD τ)) ↦[(slot t s.castSucc).view.set]{fullShare} f) ⊢ (ringRd m ρ).payload (sendCell c t s) 0 false := by
  refine BIBase.Entails.trans ?_ (Entails.of_eq (payload_k m ρ c (some (some (0, t, s))) false).symm)
  refine BIBase.Entails.trans ?_ (slotAny_of c t s.castSucc ((slot t s.castSucc).view.read (Elt F) f))
  unfold slotHas owns
  iintro H; iexists f; isplitr
  · ipureintro; rfl
  · iexact H

/-- The slot that arrives, carrying the sender's sum, is what the receiver's cell holds. -/
theorem recv_pays (c : Dev nD) (t : Fin 8) (s : Fin 15) (fs fd : cM.view.ty.Contents (Elt F))
    (hfs : (slot t s.castSucc).view.read (Elt F) fs = part m ρ t s.val c) :
    (((slot t s.succ).view.loc (dst c t : Thread nD τ)) ↦[(slot t s.succ).view.set]{fullShare}
        (slot t s.succ).view.write (Elt F) fd ((slot t s.castSucc).view.read (Elt F) fs) Finset.univ)
      ⊢ (ringRd m ρ).payload (recvCell (dst c t) t s) 0 false := by
  refine BIBase.Entails.trans ?_ (Entails.of_eq (payload_k m ρ (dst c t) (some (some (1, t, s))) false).symm)
  unfold pay slotHas owns
  dsimp only
  rw [src_dst]
  iintro H; iexists _
  isplitr
  rotate_left
  · iexact H
  · ipureintro; exact (View.read_write_univ _ _).trans hfs

/-- Such a transfer names semaphores of the right kinds. -/
theorem typed (c' : Dev nD) (b : Memref sig .tc .vmem S128x256 .f32) (q q' : DmaSem sig) (hsc : b.view.ref.isScScratch = false) :
    DmaTarget.Typed .vmem (.dma q') (.remote (p := .tc) (c' : Thread nD τ) b (.dma q) (hdst := hsc)) := ⟨⟨rfl, Or.inl rfl⟩, trivial⟩

/-- A transfer from `a` to device `c'`'s `b`, which owes one duty to the sender's cell and one to the receiver's. -/
theorem wp_dma (c c' : Dev nD) (a b : Memref sig .tc .vmem S128x256 .f32) (q q' : DmaSem sig) (ha : a.view.WordExact) (hb : b.view.WordExact)
    (hsc : b.view.ref.isScScratch = false) (hsem : DmaTarget.Typed .vmem (.dma q') (.remote (c' : Thread nD τ) b (.dma q) (hdst := hsc)))
    (κ κ' : ℕ) (O O' : CellTallies nD τ sig Unit) (W : Waits sig Unit)
    (fs : Buf (Elt F) (a.view.loc (c : Thread nD τ))) (fd : Buf (Elt F) (b.view.loc (c' : Thread nD τ)))
    (hd : false ∈ (ringRd m ρ).duties ((c : Thread nD τ), .dma q) 0) (hd' : false ∈ (ringRd m ρ).duties ((c' : Thread nD τ), .dma q') 0)
    (hN : b.view.amount (.dma q') = N)
    (hk : (ringRd m ρ).amount ((c : Thread nD τ), .dma q) 0 false = N) (hk' : (ringRd m ρ).amount ((c' : Thread nD τ), .dma q') 0 false = N)
    (hO : O' = O + tallyAt ((c' : Thread nD τ), .dma q') () N)
    (hp : (a.view.loc (c : Thread nD τ) ↦[a.view.set]{fullShare} fs) ⊢ (ringRd m ρ).payload ((c : Thread nD τ), .dma q) 0 false)
    (hp' : (b.view.loc (c' : Thread nD τ) ↦[b.view.set]{fullShare} b.view.write (Elt F) fd (a.view.read (Elt F) fs) Finset.univ)
      ⊢ (ringRd m ρ).payload ((c' : Thread nD τ), .dma q') 0 false) (Q : sProp 𝕄) :
    iprop((cellInv ER (ringRd m ρ) κ ((c : Thread nD τ), .dma q) ∗ cellInv ER (ringRd m ρ) κ' ((c' : Thread nD τ), .dma q')
        ∗ (a.view.loc (c : Thread nD τ) ↦[a.view.set]{fullShare} fs) ∗ (b.view.loc (c' : Thread nD τ) ↦[b.view.set]{fullShare} fd)
        ∗ owes (c : Thread nD τ) O' W
        ∗ dutyTok ER ((c : Thread nD τ), .dma q) 0 false ∗ reached ER ((c : Thread nD τ), .dma q) 0
        ∗ dutyTok ER ((c' : Thread nD τ), .dma q') 0 false ∗ reached ER ((c' : Thread nD τ), .dma q') 0)
        ∗ ((cred (tallyAt ((c : Thread nD τ), .dma q) () N) ∗ owes (c : Thread nD τ) O W) -∗ Q))
      ⊢ wpk c (Prog.lift (.enqueueDma a (.remote (c' : Thread nD τ) b (.dma q) (hdst := hsc)) (.dma q') ha hb hsem)) fun _ => Q := by
  unfold wpk
  simp only [Prog.lift]
  iintro ⟨H, Hk⟩
  iapply (Rounds.wp_send_pointsTo 𝒱₀ ER (ringRd m ρ) (c : Thread nD τ) none (κ₁ := κ) (κ₂ := κ')
      (fd := fd) hd hd' () () N hN hk hk' O hO hp hp') $$ H
  iintro ⟨Hc, Ho⟩
  rw [wp_ret]; imodintro
  iapply Hk
  isplitl [Hc]; · iexact Hc
  iexact Ho

/-- Sending slot `s` of strip `t` on. -/
theorem wp_send (K : Dev nD × CK → ℕ) (c : Dev nD) (t : Fin 8) (s : Fin 15) (l : List Debt) (Q : sProp 𝕄) :
    iprop(ctx m ρ K ∗ slotHas c t s.castSucc (part m ρ t s.val c) ∗ slotAny (F := F) (dst c t) t s.succ ∗ ticket c t s ∗ owing c (debt s t :: l)
        ∗ ((flying c t s ∗ owing c l) -∗ Q))
      ⊢ wpk c (send cM cc0_scratch1 c t s) fun _ => Q := by
  unfold send
  rw [dest_eq]
  unfold ticket owing flying slotAny slotHas owns
  iintro ⟨#Hctx, ⟨%fs, %hfs, Hs⟩, ⟨%v, %fd, -, Hd⟩, ⟨Hat, Ht1, Ht2⟩, ⟨%W, Ho⟩, Hk⟩
  have key := wp_dma m ρ c (dst c t) (slot t s.castSucc) (slot t s.succ) (xferS 0 t s) (xferS 1 t s)
    ((View.wordExact_bits rfl).reshape _ _) ((View.wordExact_bits rfl).reshape _ _) rfl (typed _ _ _ _ _)
    (K (c, some (some (0, t, s)))) (K (dst c t, some (some (1, t, s)))) (owedL l c) (owedL (debt s t :: l) c) W fs fd
    (mem_duties_xfer m ρ c (0, t, s)) (mem_duties_xfer m ρ (dst c t) (1, t, s)) (amount_slot t s.succ _)
    (amount_k m ρ c (some (some (0, t, s))) false) (amount_k m ρ (dst c t) (some (some (1, t, s))) false) rfl
    (send_pays m ρ c t s fs) (recv_pays m ρ c t s fs fd hfs) Q
  iapply key
  isplitr [Hk Hat]
  · isplitr; · iapply (ctx_inv m ρ K (c, some (some (0, t, s)))); iexact Hctx
    isplitr; · iapply (ctx_inv m ρ K (dst c t, some (some (1, t, s)))); iexact Hctx
    isplitl [Hs]; · iexact Hs
    isplitl [Hd]; · iexact Hd
    isplitl [Ho]; · iexact Ho
    isplitl [Ht1]; · iexact Ht1
    isplitr; · iapply (ctx_reached m ρ K (c, some (some (0, t, s)))); iexact Hctx
    isplitl [Ht2]; · iexact Ht2
    iapply (ctx_reached m ρ K (dst c t, some (some (1, t, s)))); iexact Hctx
  iintro ⟨Hc, Ho⟩
  iapply Hk
  isplitl [Hc Hat]
  · isplitl [Hc]; · iexact Hc
    iexact Hat
  iexists W; iexact Ho

/-- Waiting for one transfer cell, at either end. -/
theorem wp_xfer (K : Dev nD × CK → ℕ) (c : Dev nD) (x : DK) (l : List Debt) (hl : ∀ y ∈ l, level (some (some x)) < level y.cell)
    {sp sp' : Space} {sh : Shape} {e : EltTy} (a : Memref sig .tc sp sh e) (b : Memref sig .tc sp' sh e) (ha : a.view.WordExact) (hb : b.view.WordExact)
    (hN : b.view.dmaCredit = N) {α : Type} (k : PUnit → Kern F α) (Q : α → sProp 𝕄) :
    iprop(ctx m ρ K ∗ cred (tallyAt (kcell (c, some (some x))) () N) ∗ atPos ER (kcell (c, some (some x))) 0 ∅ 0 ∗ owing c l
        ∗ ((owing c l ∗ atPos ER (kcell (c, some (some x))) 1 ∅ 0 ∗ pay m ρ c (some (some x)) false) -∗ wpk c (k ⟨⟩) Q))
      ⊢ wpk c (.op (.waitDma2 (xferS x.1 x.2.1 x.2.2) a b ha hb) k) Q := by
  unfold owing wpk
  iintro ⟨#Hctx, Hc, Hat, ⟨%W, Ho⟩, Hk⟩
  iapply (Rounds.wp_wait_rest_token 𝒱₀ ER (ringRd m ρ) (c : Thread nD τ) none (sm := csem (some (some x))) (κ := K (c, some (some x)))
      (wpE_waitDma2_eq 𝒱₀ (c : Thread nD τ) none Set.univ) (Set.mem_univ _) () (O := owedL l c) (W := W) (R := 0) (m := 0) (T := ∅)
      (by rw [Nat.zero_add, expect_xfer m ρ c x]; exact hN)) $$ [Hc Ho Hat]
  · isplitr; · iapply (ctx_inv m ρ K (c, some (some x))); iexact Hctx
    isplitl [Hc]; · rw [hN]; iexact Hc
    isplitl [Ho]; · iexact Ho
    isplitr; · iapply (ctx_wait m ρ K c (some (some x)) l hl); iexact Hctx
    iexact Hat
  iintro ⟨Ho, Hat, -, Hpay⟩
  ihave Hp := (Entails.of_eq ((rest_k m ρ c (some (some x))).trans (bigSep_singleton (i := false)))) $$ Hpay
  iapply Hk
  isplitl [Ho]; · iexists _; iexact Ho
  isplitl [Hat]; · iexact Hat
  iexact Hp

/-- Receiving slot `s + 1` of strip `t`. -/
theorem wp_recv (K : Dev nD × CK → ℕ) (c : Dev nD) (t : Fin 8) (s : Fin 15) (l : List Debt) (hl : ∀ y ∈ l, 2 + s.val < level y.cell)
    (Q : Vec F S1x1x128x256 .f32 → sProp 𝕄) :
    iprop(ctx m ρ K ∗ coming c t s ∗ owing c l
        ∗ (∀ v, ⌜shapeCast S128x256 v shapeCasts_S1x1x128x256_S128x256 = part m ρ t s.val (src c t)⌝ -∗ (owing c l ∗ came c t s ∗ slotAny (F := F) c t s.succ) -∗ Q v))
      ⊢ wpk c (recv cM cc0_scratch1 t s) Q := by
  unfold recv coming came
  simp only [Prog.lift, Prog.bind_op, Prog.bind_ret, Prog.pure_eq_ret]
  iintro ⟨#Hctx, ⟨Hc, Hat⟩, Ho, Hk⟩
  iapply (wp_xfer m ρ K c (1, t, s) l hl)
  · rfl
  isplitr; · iexact Hctx
  isplitl [Hc]; · iexact Hc
  isplitl [Hat]; · iexact Hat
  isplitl [Ho]; · iexact Ho
  iintro ⟨Ho, Hat, Hp⟩
  ihave Hp := (show pay m ρ c (some (some (1, t, s))) false ⊢ slotHas c t s.succ (part m ρ t s.val (src c t)) from .rfl) $$ Hp
  unfold slotHas owns
  icases Hp with ⟨%f, %hf, H⟩
  iapply (wp_load 𝒱₀ (c : Thread nD τ) none Set.univ (m := cM) (Finset.Subset.refl _)) $$ [H]
  · rw [← slot_set]; iexact H
  iintro H
  rw [wp_ret]; imodintro
  iapply Hk
  · ipureintro; exact (slot_read t s.succ f).trans hf
  isplitl [Ho]; · iexact Ho
  isplitl [Hat]; · iexact Hat
  iapply (slotAny_of c t s.succ (part m ρ t s.val (src c t)))
  unfold slotHas owns
  iexists f
  isplitr; · ipureintro; exact hf
  rw [slot_set]; iexact H

/-- Waiting until transfer `s` of strip `t` has left. -/
theorem wp_sent (K : Dev nD × CK → ℕ) (c : Dev nD) (t : Fin 8) (s : Fin 15) (l : List Debt) (hl : ∀ y ∈ l, 0 < level y.cell) (Q : sProp 𝕄) :
    iprop(ctx m ρ K ∗ flying c t s ∗ owing c l ∗ ((gone c t s ∗ owing c l) -∗ Q)) ⊢ wpk c (sent cM cc0_scratch1 t s) fun _ => Q := by
  unfold sent flying gone
  simp only [Prog.lift]
  iintro ⟨#Hctx, ⟨Hc, Hat⟩, Ho, Hk⟩
  iapply (wp_xfer m ρ K c (0, t, s) l hl)
  · rfl
  isplitr; · iexact Hctx
  isplitl [Hc]; · iexact Hc
  isplitl [Hat]; · iexact Hat
  isplitl [Ho]; · iexact Ho
  iintro ⟨Ho, Hat, Hp⟩
  unfold wpk
  rw [wp_ret]; imodintro
  iapply Hk
  isplitl [Hat Hp]
  · isplitl [Hat]; · iexact Hat
    iapply (show pay m ρ c (some (some (0, t, s))) false ⊢ slotAny (F := F) c t s.castSucc from BIBase.Entails.rfl); iexact Hp
  iexact Ho

end Cert.Ring

end
-- ==== Proof.Loops.lean ====
/- The kernel's loops, from the greeting to the last step. -/
module

public import proofs.«01_k».proof.Proof.Steps

@[expose] public section

set_option maxRecDepth 10000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One strip of a step -/

/-- What a transfer needs besides its slot: the slot that it goes to, and its ticket. -/
def ready (c : Dev nD) (t : Fin 8) (s : Fin 15) : sProp 𝕄 := iprop(slotAny (F := F) (dst c t) t s.succ ∗ ticket c t s)

/-- All transfers of one step are of the level that their step tells. -/
theorem level_debts (s : Fin 15) (l : List (Fin 8)) : ∀ y ∈ l.map (debt s), level y.cell = 2 + s.val := by
  intro y hy
  obtain ⟨t, -, rfl⟩ := List.mem_map.mp hy
  rfl

/-- The opening of strip `t`. -/
theorem wp_first (K : Dev nD × CK → ℕ) (c : Dev nD) (t : Fin 8) (l : List Debt) (Q : sProp 𝕄) :
    iprop(ctx m ρ K ∗ (slotAny (F := F) c t 0 ∗ ready c t 0) ∗ owing c (debt 0 t :: l) ∗ ((flying c t 0 ∗ owing c l) -∗ Q))
      ⊢ wpk c (first cM cc0_scratch1 c (lAt m ρ c 0) (rAt m ρ c 0) t) fun _ => Q := by
  unfold first wpk ready
  rw [wp_bind]
  iintro ⟨#Hctx, ⟨Hs, Hd, Ht⟩, Ho, Hk⟩
  iapply (wp_put c t 0 (strip (lAt m ρ c 0) (rAt m ρ c 0) t))
  isplitl [Hs]; · iexact Hs
  iintro Hs
  iapply (wp_send m ρ K c t 0 l Q)
  isplitr; · iexact Hctx
  isplitl [Hs]; · iexact Hs
  isplitl [Hd]; · iexact Hd
  isplitl [Ht]; · iexact Ht
  isplitl [Ho]; · iexact Ho
  iexact Hk

/-- The sum that a device makes of what it received. -/
theorem plus_eq (c : Dev nD) (t : Fin 8) (s : Fin 15) (v : Vec F S1x1x128x256 .f32)
    (hv : shapeCast S128x256 v shapeCasts_S1x1x128x256_S128x256 = part m ρ t s.val (src c t)) :
    plus (lAt m ρ c (s.val + 1)) (rAt m ρ c (s.val + 1)) t v = part m ρ t (s.val + 1) c := by
  unfold plus part; rw [hv]

/-- Strip `t` of a step before the last. -/
theorem wp_next (K : Dev nD × CK → ℕ) (c : Dev nD) (s : Fin 14) (t : Fin 8) (l : List Debt) (hl : ∀ y ∈ l, 2 + s.val < level y.cell) (Q : sProp 𝕄) :
    iprop(ctx m ρ K ∗ (coming c t s.castSucc ∗ ready c t s.succ) ∗ owing c (debt s.succ t :: l)
        ∗ (((came c t s.castSucc ∗ flying c t s.succ) ∗ owing c l) -∗ Q))
      ⊢ wpk c (next cM cc0_scratch1 c (lAt m ρ c (s.val + 1)) (rAt m ρ c (s.val + 1)) s t) fun _ => Q := by
  unfold next wpk ready
  rw [wp_bind]
  iintro ⟨#Hctx, ⟨Hc, Hd, Ht⟩, Ho, Hk⟩
  iapply (wp_recv m ρ K c t s.castSucc (debt s.succ t :: l) (fun y hy => by
    rcases List.mem_cons.mp hy with rfl | hy
    · show 2 + s.val < 2 + (s.val + 1); omega
    · exact hl y hy))
  isplitr; · iexact Hctx
  isplitl [Hc]; · iexact Hc
  isplitl [Ho]; · iexact Ho
  iintro %v %hv ⟨Ho, Hc, Hs⟩
  rw [wp_bind]
  rw [show plus (lAt m ρ c (s.val + 1)) (rAt m ρ c (s.val + 1)) t v = part m ρ t s.succ.val c from plus_eq m ρ c t s.castSucc v hv]
  iapply (wp_put c t s.succ.castSucc (part m ρ t s.succ.val c))
  isplitl [Hs]; · iexact Hs
  iintro Hs
  iapply (wp_send m ρ K c t s.succ l Q)
  isplitr; · iexact Hctx
  isplitl [Hs]; · iexact Hs
  isplitl [Hd]; · iexact Hd
  isplitl [Ht]; · iexact Ht
  isplitl [Ho]; · iexact Ho
  iintro ⟨Hf, Ho⟩
  iapply Hk
  isplitl [Hc Hf]
  · isplitl [Hc]; · iexact Hc
    iexact Hf
  iexact Ho

/-! ## The result -/

/-- Two strips of the result have no element in common. -/
theorem out_apart {t t' : Fin 8} (h : t ≠ t') (j : (outR t').shape.Idx) : (outR t').emb j ∉ (outR t).set := by
  rw [Rect.mem_set_unit]
  intro hm
  have h1 := hm 1
  rw [Rect.emb_apply] at h1
  have hj : (j 1).val < 256 := (j 1).isLt
  have e : ((outR t').off 1 : ℕ) = t'.val * 256 := rfl
  have e' : ((outR t').stride 1 : ℕ) = 1 := rfl
  rw [e, e'] at h1
  have h2 : t.val * 256 ≤ t'.val * 256 + 1 * (j 1).val ∧ t'.val * 256 + 1 * (j 1).val < t.val * 256 + 256 := h1
  exact h (Fin.ext (by omega))

/-- Writing one strip leaves the others. -/
theorem out_keep {t t' : Fin 8} (h : t ≠ t') (f : oM.view.ty.Contents (Elt F)) (v : FVec F S128x256 .f32) :
    (oM.access (outR t')).read (Elt F) ((oM.access (outR t)).write (Elt F) f v Finset.univ) = (oM.access (outR t')).read (Elt F) f := by
  funext j
  rw [View.read_apply, View.read_apply, View.write_of_not_mem]
  show _ ∉ (oM.access (outR t)).set
  rw [show (oM.access (outR t)).set = (outR t).set from View.set_slice_whole _ _]
  exact out_apart h j

/-- Device `c` holds its result, all strips but those of `l` done. -/
def outBut (c : Dev nD) (l : List (Fin 8)) : sProp 𝕄 :=
  iprop(∃ f : oM.view.ty.Contents (Elt F), ⌜∀ t, t ∉ l → (oM.access (outR t)).read (Elt F) f = part m ρ t 15 c⌝
    ∗ (((c : Thread nD τ).loc cc0_stg2_0) ↦{fullShare} f))

/-- Strip `t` of the last step. -/
theorem wp_last (K : Dev nD × CK → ℕ) (c : Dev nD) (t : Fin 8) (r : List (Fin 8)) (l : List Debt) (hl : ∀ y ∈ l, 2 + 14 < level y.cell) (Q : sProp 𝕄) :
    iprop(ctx m ρ K ∗ coming c t (Fin.last 14) ∗ (owing c l ∗ outBut m ρ c (t :: r))
        ∗ (((came c t (Fin.last 14) ∗ slotAny (F := F) c t (Fin.last 15)) ∗ (owing c l ∗ outBut m ρ c r)) -∗ Q))
      ⊢ wpk c (last oM cM cc0_scratch1 (lAt m ρ c 15) (rAt m ρ c 15) t) fun _ => Q := by
  unfold last wpk outBut
  rw [wp_bind]
  iintro ⟨#Hctx, Hc, ⟨Ho, ⟨%f, %hf, Hout⟩⟩, Hk⟩
  iapply (wp_recv m ρ K c t (Fin.last 14) l hl)
  isplitr; · iexact Hctx
  isplitl [Hc]; · iexact Hc
  isplitl [Ho]; · iexact Ho
  iintro %v %hv ⟨Ho, Hc, Hs⟩
  have hp : plus (lAt m ρ c 15) (rAt m ρ c 15) t v = part m ρ t 15 c := plus_eq m ρ c t (Fin.last 14) v hv
  rw [hp]
  simp only [Prog.lift, Prog.bind_op, Prog.bind_ret]
  iapply (wp_load 𝒱₀ (c : Thread nD τ) none Set.univ (m := oM) (Finset.subset_univ _)) $$ Hout; iintro Hout
  iapply (wp_store 𝒱₀ (c : Thread nD τ) none Set.univ (m := oM) (r := outR t) (Mk := Finset.univ) (Finset.subset_univ _)) $$ Hout; iintro Hout
  rw [wp_ret]; imodintro
  iapply Hk
  isplitl [Hc Hs]
  · isplitl [Hc]; · iexact Hc
    iexact Hs
  isplitl [Ho]; · iexact Ho
  iexists _
  isplitr
  rotate_left
  · iexact Hout
  ipureintro
  intro t' ht'
  by_cases h : t = t'
  · subst h; exact View.read_write_univ _ _
  · rw [out_keep h]; exact hf t' (by simp [ht', Ne.symm h])

/-! ## The loops -/

/-- A list has no order to keep. -/
theorem pairwise_true {α : Type} (l : List α) : l.Pairwise fun _ _ => True := by
  induction l with
  | nil => exact .nil
  | cons a l ih => exact .cons (fun _ _ => trivial) ih

theorem wp_opening (K : Dev nD × CK → ℕ) (c : Dev nD) (l : List Debt) (Q : sProp 𝕄) :
    iprop(ctx m ρ K ∗ ops m ρ c ∗ bigSepL order (fun t => iprop(slotAny (F := F) c t 0 ∗ ready c t 0)) ∗ owing c (debts 0 ++ l)
        ∗ ((ops m ρ c ∗ bigSepL order (fun t => flying c t 0) ∗ owing c l) -∗ Q))
      ⊢ wpk c (opening xM wM cM cc0_scratch1 c) fun _ => Q := by
  unfold opening wpk
  rw [wp_bind]
  iintro ⟨#Hctx, Hx, Ht, Ho, Hk⟩
  iapply (wp_half m ρ c _ _ (chunkL c 0) (off1_eq c) 0)
  isplitl [Hx]; · iexact Hx
  iintro Hx
  rw [wp_bind]
  iapply (wp_half m ρ c _ _ (chunkR c 0) (off2_eq c) 1)
  isplitl [Hx]; · iexact Hx
  iintro Hx
  iapply (wp_each c (first cM cc0_scratch1 c (lAt m ρ c 0) (rAt m ρ c 0)) (fun _ _ => True)
    (fun r => iprop(ctx m ρ K ∗ owing c (r.map (debt 0) ++ l))) (fun t => iprop(slotAny (F := F) c t 0 ∗ ready c t 0)) (fun t => flying c t 0)
    (fun t r Q _ => by
      iintro ⟨Ht, ⟨#Hctx, Ho⟩, Hk⟩
      iapply (wp_first m ρ K c t (r.map (debt 0) ++ l) Q)
      isplitr; · iexact Hctx
      isplitl [Ht]; · iexact Ht
      isplitl [Ho]; · iexact Ho
      iintro ⟨Hf, Ho⟩
      iapply Hk
      isplitl [Hf]; · iexact Hf
      isplitr; · iexact Hctx
      iexact Ho) order (pairwise_true _))
  isplitl [Ht]; · iexact Ht
  isplitl [Ho]
  · isplitr; · iexact Hctx
    iexact Ho
  iintro ⟨Hf, -, Ho⟩
  iapply Hk
  isplitl [Hx]; · iexact Hx
  isplitl [Hf]; · iexact Hf
  iexact Ho

theorem wp_step (K : Dev nD × CK → ℕ) (c : Dev nD) (s : Fin 14) (l : List Debt) (hl : ∀ y ∈ l, 2 + s.val < level y.cell) (Q : sProp 𝕄) :
    iprop(ctx m ρ K ∗ ops m ρ c ∗ bigSepL order (fun t => iprop(coming c t s.castSucc ∗ ready c t s.succ)) ∗ owing c (debts s.succ ++ l)
        ∗ ((ops m ρ c ∗ bigSepL order (fun t => iprop(came c t s.castSucc ∗ flying c t s.succ)) ∗ owing c l) -∗ Q))
      ⊢ wpk c (step xM wM cM cc0_scratch1 c s) fun _ => Q := by
  unfold step wpk
  rw [wp_bind]
  iintro ⟨#Hctx, Hx, Ht, Ho, Hk⟩
  iapply (wp_half m ρ c _ _ (chunkL c (s.val + 1)) (off3_eq c s.castSucc) 0)
  isplitl [Hx]; · iexact Hx
  iintro Hx
  rw [wp_bind]
  iapply (wp_half m ρ c _ _ (chunkR c (s.val + 1)) (off4_eq c s.castSucc) 1)
  isplitl [Hx]; · iexact Hx
  iintro Hx
  iapply (wp_each c (next cM cc0_scratch1 c (lAt m ρ c (s.val + 1)) (rAt m ρ c (s.val + 1)) s) (fun _ _ => True)
    (fun r => iprop(ctx m ρ K ∗ owing c (r.map (debt s.succ) ++ l))) (fun t => iprop(coming c t s.castSucc ∗ ready c t s.succ))
    (fun t => iprop(came c t s.castSucc ∗ flying c t s.succ))
    (fun t r Q _ => by
      iintro ⟨Ht, ⟨#Hctx, Ho⟩, Hk⟩
      iapply (wp_next m ρ K c s t (r.map (debt s.succ) ++ l) (fun y hy => by
        rcases List.mem_append.mp hy with hy | hy
        · rw [level_debts _ _ y hy, Fin.val_succ]; omega
        · exact hl y hy) Q)
      isplitr; · iexact Hctx
      isplitl [Ht]; · iexact Ht
      isplitl [Ho]; · iexact Ho
      iintro ⟨Hf, Ho⟩
      iapply Hk
      isplitl [Hf]; · iexact Hf
      isplitr; · iexact Hctx
      iexact Ho) order (pairwise_true _))
  isplitl [Ht]; · iexact Ht
  isplitl [Ho]
  · isplitr; · iexact Hctx
    iexact Ho
  iintro ⟨Hf, -, Ho⟩
  iapply Hk
  isplitl [Hx]; · iexact Hx
  isplitl [Hf]; · iexact Hf
  iexact Ho

theorem wp_steps (K : Dev nD × CK → ℕ) (c : Dev nD) (l : List Debt) (hl : ∀ y ∈ l, 2 + 14 < level y.cell) (Q : sProp 𝕄) :
    iprop(ctx m ρ K ∗ ops m ρ c ∗ bigSepL steps (fun s => bigSepL order fun t => iprop(coming c t s.castSucc ∗ ready c t s.succ))
        ∗ owing c ((steps.map Fin.succ).flatMap debts ++ l)
        ∗ ((ops m ρ c ∗ bigSepL steps (fun s => bigSepL order fun t => iprop(came c t s.castSucc ∗ flying c t s.succ)) ∗ owing c l) -∗ Q))
      ⊢ wpk c (each (step xM wM cM cc0_scratch1 c) steps) fun _ => Q := by
  iintro ⟨#Hctx, Hx, Ht, Ho, Hk⟩
  iapply (wp_each c (step xM wM cM cc0_scratch1 c) (fun a b => a < b)
    (fun r => iprop(ctx m ρ K ∗ ops m ρ c ∗ owing c ((r.map Fin.succ).flatMap debts ++ l)))
    (fun s => bigSepL order fun t => iprop(coming c t s.castSucc ∗ ready c t s.succ))
    (fun s => bigSepL order fun t => iprop(came c t s.castSucc ∗ flying c t s.succ))
    (fun s r Q hr => by
      rw [List.map_cons, List.flatMap_cons, List.append_assoc]
      iintro ⟨Ht, ⟨#Hctx, Hx, Ho⟩, Hk⟩
      iapply (wp_step m ρ K c s ((r.map Fin.succ).flatMap debts ++ l) (fun y hy => by
        rcases List.mem_append.mp hy with hy | hy
        · obtain ⟨s', hs', hy⟩ := List.mem_flatMap.mp hy
          obtain ⟨b, hb, rfl⟩ := List.mem_map.mp hs'
          have hlt : s.val < b.val := hr b hb
          rw [level_debts _ _ y hy, Fin.val_succ]; omega
        · exact lt_of_le_of_lt (by omega) (hl y hy)) Q)
      isplitr; · iexact Hctx
      isplitl [Hx]; · iexact Hx
      isplitl [Ht]; · iexact Ht
      isplitl [Ho]; · iexact Ho
      iintro ⟨Hx, Hf, Ho⟩
      iapply Hk
      isplitl [Hf]; · iexact Hf
      isplitr; · iexact Hctx
      isplitl [Hx]; · iexact Hx
      iexact Ho) steps (by decide))
  isplitl [Ht]; · iexact Ht
  isplitl [Hx Ho]
  · isplitr; · iexact Hctx
    isplitl [Hx]; · iexact Hx
    iexact Ho
  iintro ⟨Hf, -, Hx, Ho⟩
  iapply Hk
  isplitl [Hx]; · iexact Hx
  isplitl [Hf]; · iexact Hf
  iexact Ho

theorem wp_closing (K : Dev nD × CK → ℕ) (c : Dev nD) (l : List Debt) (hl : ∀ y ∈ l, 2 + 14 < level y.cell) (Q : sProp 𝕄) :
    iprop(ctx m ρ K ∗ ops m ρ c ∗ bigSepL order (fun t => coming c t (Fin.last 14)) ∗ (owing c l ∗ outBut m ρ c order)
        ∗ ((ops m ρ c ∗ bigSepL order (fun t => iprop(came c t (Fin.last 14) ∗ slotAny (F := F) c t (Fin.last 15))) ∗ owing c l ∗ outBut m ρ c []) -∗ Q))
      ⊢ wpk c (closing xM wM oM cM cc0_scratch1 c) fun _ => Q := by
  unfold closing wpk
  rw [wp_bind]
  iintro ⟨#Hctx, Hx, Ht, Ho, Hk⟩
  iapply (wp_half m ρ c _ _ (chunkL c 15) (off3_eq c (Fin.last 14)) 0)
  isplitl [Hx]; · iexact Hx
  iintro Hx
  rw [wp_bind]
  iapply (wp_half m ρ c _ _ (chunkR c 15) (off4_eq c (Fin.last 14)) 1)
  isplitl [Hx]; · iexact Hx
  iintro Hx
  iapply (wp_each c (last oM cM cc0_scratch1 (lAt m ρ c 15) (rAt m ρ c 15)) (fun _ _ => True)
    (fun r => iprop(ctx m ρ K ∗ owing c l ∗ outBut m ρ c r)) (fun t => coming c t (Fin.last 14))
    (fun t => iprop(came c t (Fin.last 14) ∗ slotAny (F := F) c t (Fin.last 15)))
    (fun t r Q _ => by
      iintro ⟨Ht, ⟨#Hctx, Ho⟩, Hk⟩
      iapply (wp_last m ρ K c t r l hl Q)
      isplitr; · iexact Hctx
      isplitl [Ht]; · iexact Ht
      isplitl [Ho]; · iexact Ho
      iintro ⟨Hf, Ho⟩
      iapply Hk
      isplitl [Hf]; · iexact Hf
      isplitr; · iexact Hctx
      iexact Ho) order (pairwise_true _))
  isplitl [Ht]; · iexact Ht
  isplitl [Ho]
  · isplitr; · iexact Hctx
    iexact Ho
  iintro ⟨Hf, -, Ho⟩
  iapply Hk
  isplitl [Hx]; · iexact Hx
  isplitl [Hf]; · iexact Hf
  iexact Ho

theorem wp_sents (K : Dev nD × CK → ℕ) (c : Dev nD) (l : List Debt) (hl : ∀ y ∈ l, 0 < level y.cell) (Q : sProp 𝕄) :
    iprop(ctx m ρ K ∗ bigSepL strips (fun t => bigSepL sends fun s => flying c t s) ∗ owing c l
        ∗ ((bigSepL strips (fun t => bigSepL sends fun s => gone c t s) ∗ owing c l) -∗ Q))
      ⊢ wpk c (each (fun t => each (sent cM cc0_scratch1 t) sends) strips) fun _ => Q := by
  iintro ⟨#Hctx, Ht, Ho, Hk⟩
  iapply (wp_each c (fun t => each (sent cM cc0_scratch1 t) sends) (fun _ _ => True) (fun _ => iprop(ctx m ρ K ∗ owing c l))
    (fun t => bigSepL sends fun s => flying c t s) (fun t => bigSepL sends fun s => gone c t s)
    (fun t _ Q _ => wp_each c (sent cM cc0_scratch1 t) (fun _ _ => True) (fun _ => iprop(ctx m ρ K ∗ owing c l))
      (fun s => flying c t s) (fun s => gone c t s)
      (fun s _ Q _ => by
        iintro ⟨Ht, ⟨#Hctx, Ho⟩, Hk⟩
        iapply (wp_sent m ρ K c t s l hl Q)
        isplitr; · iexact Hctx
        isplitl [Ht]; · iexact Ht
        isplitl [Ho]; · iexact Ho
        iintro ⟨Hg, Ho⟩
        iapply Hk
        isplitl [Hg]; · iexact Hg
        isplitr; · iexact Hctx
        iexact Ho) sends (pairwise_true _) Q) strips (pairwise_true _))
  isplitl [Ht]; · iexact Ht
  isplitl [Ho]
  · isplitr; · iexact Hctx
    iexact Ho
  iintro ⟨Hg, -, Ho⟩
  iapply Hk
  isplitl [Hg]; · iexact Hg
  iexact Ho

/-! ## The greetings -/

/-- A greeting: a signal to either neighbour, then a wait for theirs. -/
theorem wp_greet (K : Dev nD × CK → ℕ) (c : Dev nD) (k : CK) (bar : Sem sig) (e : csem k = .reg bar) (hd : dut k = Finset.univ)
    (ha : ∀ c, (ringRd m ρ).amount (kcell (c, k)) 0 true = 1) (ha' : ∀ c, (ringRd m ρ).amount (kcell (c, k)) 0 false = 1)
    (hx : (ringRd m ρ).expect (kcell (c, k)) 0 = 2) (l : List Debt) (hl : ∀ y ∈ l, level k < level y.cell) (Q : sProp 𝕄) :
    iprop(ctx m ρ K ∗ dutyTok ER (kcell (prv c, k)) 0 true ∗ pay m ρ (prv c) k true ∗ dutyTok ER (kcell (nxt c, k)) 0 false ∗ pay m ρ (nxt c) k false
        ∗ cred (tallyAt (kcell (c, k)) () 2) ∗ atPos ER (kcell (c, k)) 0 ∅ 0 ∗ owing c (greets k ++ l)
        ∗ ((atPos ER (kcell (c, k)) 1 ∅ 0 ∗ bigSep (dut k) (fun d => pay m ρ c k d) ∗ owing c l) -∗ Q))
      ⊢ wpk c (greet bar (prv c) (nxt c)) fun _ => Q := by
  have hw := ctx_wait m ρ K c k l hl
  have hr := rest_k m ρ c k
  have hI := fun c => ctx_inv m ρ K (c, k)
  have hR := fun c => ctx_reached m ρ K (c, k)
  have hm := duties_k m ρ (prv c) k
  have hm' := duties_k m ρ (nxt c) k
  have hp := payload_k m ρ (prv c) k true
  have hp' := payload_k m ρ (nxt c) k false
  have hO : owedL (greets k ++ l) c = (owedL l c + tallyAt (kcell (nxt c, k)) () 1) + tallyAt (kcell (prv c, k)) () 1 := rfl
  have ek : ∀ c, kcell (c, k) = ((c : Thread nD τ), .reg bar) := fun c => by unfold kcell; rw [e]
  rw [hd] at hm hm'
  rw [e] at hw
  simp only [ek] at ha ha' hx hr hI hR hm hm' hp hp' hO
  simp only [ek]
  unfold greet wpk owing
  simp only [semSignalWord, semWaitWord, Prog.lift, Prog.bind_op, Prog.bind_ret, Prog.pure_eq_ret]
  iintro ⟨#Hctx, Ht, Hp, Ht', Hp', Hc, Hat, ⟨%W, Ho⟩, Hk⟩
  iapply (Rounds.wp_signal 𝒱₀ ER (ringRd m ρ) (c : Thread nD τ) none (dst := (prv c : Thread nD τ)) (κ := K (prv c, k))
      (d := true) (by rw [hm]; exact Finset.mem_univ _) ((ha (prv c)).trans (by decide)) () (owedL l c + tallyAt ((nxt c : Thread nD τ), .reg bar) () 1) hO)
    $$ [Ho Ht Hp]
  · isplitr; · iapply (hI (prv c)); iexact Hctx
    isplitl [Ho]; · iexact Ho
    isplitl [Ht]; · iexact Ht
    isplitl [Hp]; · rw [hp]; iexact Hp
    iapply (hR (prv c)); iexact Hctx
  iintro Ho
  iapply (Rounds.wp_signal 𝒱₀ ER (ringRd m ρ) (c : Thread nD τ) none (dst := (nxt c : Thread nD τ)) (κ := K (nxt c, k))
      (d := false) (by rw [hm']; exact Finset.mem_univ _) ((ha' (nxt c)).trans (by decide)) () (owedL l c) rfl)
    $$ [Ho Ht' Hp']
  · isplitr; · iapply (hI (nxt c)); iexact Hctx
    isplitl [Ho]; · iexact Ho
    isplitl [Ht']; · iexact Ht'
    isplitl [Hp']; · rw [hp']; iexact Hp'
    iapply (hR (nxt c)); iexact Hctx
  iintro Ho
  iapply (Rounds.wp_wait_rest_token 𝒱₀ ER (ringRd m ρ) (c : Thread nD τ) none (κ := K (c, k))
      (wpE_semWait_eq 𝒱₀ (c : Thread nD τ) none Set.univ) (Set.mem_univ _) () (O := owedL l c) (W := W) (R := 0) (m := 0) (T := ∅)
      (by rw [hx]; decide)) $$ [Hc Ho Hat]
  · isplitr; · iapply (hI c); iexact Hctx
    isplitl [Hc]; · iexact Hc
    isplitl [Ho]; · iexact Ho
    isplitr; · iapply hw; iexact Hctx
    iexact Hat
  iintro ⟨Ho, Hat, -, Hpay⟩
  ihave Hp := (Entails.of_eq hr) $$ Hpay
  rw [wp_ret]; imodintro
  iapply Hk
  isplitl [Hat]; · iexact Hat
  isplitl [Hp]; · iexact Hp
  iexists _; iexact Ho

end Cert.Ring

end
-- ==== Proof.Body.lean ====
/- The kernel's whole body on one device. -/
module

public import proofs.«01_k».proof.Proof.Loops

@[expose] public section

set_option maxRecDepth 10000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Grouping -/

/-- The first of a range apart; -/
theorem split_first {n : ℕ} (Φ : Fin (n + 1) → sProp 𝕄) : bigSep Finset.univ Φ = iprop(Φ 0 ∗ bigSep Finset.univ fun i : Fin n => Φ i.succ) := by
  rw [Fin.univ_succ, Finset.cons_eq_insert, bigSep_insert (by simp), bigSep_map]; rfl
/-- the last of a range apart; -/
theorem split_last {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]; rfl
/-- the strips in the kernel's order; -/
theorem order_eq (Φ : Fin 8 → sProp 𝕄) : bigSepL order Φ = bigSep Finset.univ Φ := (bigSep_univ_eq_bigSepL order (by decide) (by decide) Φ).symm
/-- the steps and strips in the kernel's order. -/
theorem steps_eq (Φ : Fin 14 → Fin 8 → sProp 𝕄) :
    (bigSepL steps fun s => bigSepL order fun t => Φ s t) = bigSep Finset.univ fun s => bigSep Finset.univ fun t => Φ s t := by
  rw [bigSep_univ_eq_bigSepL steps (by decide) (by decide)]
  exact congrArg (bigSepL steps) (funext fun s => order_eq (Φ s))
theorem sends_eq (Φ : Fin 8 → Fin 15 → sProp 𝕄) :
    (bigSepL strips fun t => bigSepL sends fun s => Φ t s) = bigSep Finset.univ fun t => bigSep Finset.univ fun s => Φ t s := by
  rw [bigSep_univ_eq_bigSepL strips (by decide) (by decide)]
  exact congrArg (bigSepL strips) (funext fun t => (bigSep_univ_eq_bigSepL sends (by decide) (by decide) (Φ t)).symm)

/-- All transfers: those of the opening and those of the steps; -/
theorem first_eq (P : Fin 8 → Fin 15 → sProp 𝕄) : (bigSep Finset.univ fun t => bigSep Finset.univ fun s => P t s)
    = iprop(bigSepL order (fun t => P t 0) ∗ bigSepL steps fun s => bigSepL order fun t => P t s.succ) := by
  rw [bigSep_univ_comm, split_first, order_eq, steps_eq]
/-- or those of the steps and those of the closing. -/
theorem last_eq (P : Fin 8 → Fin 15 → sProp 𝕄) : (bigSep Finset.univ fun t => bigSep Finset.univ fun s => P t s)
    = iprop(bigSepL order (fun t => P t (Fin.last 14)) ∗ bigSepL steps fun s => bigSepL order fun t => P t s.castSucc) := by
  rw [bigSep_univ_comm, split_last, order_eq, steps_eq]

/-- What two families hold, transfer by transfer. -/
theorem both_eq {α β : Type} [Fintype α] [Fintype β] (Φ Ψ : α → β → sProp 𝕄) :
    (bigSep Finset.univ fun a => bigSep Finset.univ fun b => iprop(Φ a b ∗ Ψ a b))
      = iprop((bigSep Finset.univ fun a => bigSep Finset.univ fun b => Φ a b) ∗ bigSep Finset.univ fun a => bigSep Finset.univ fun b => Ψ a b) := by
  rw [← bigSep_sep']; exact bigSep_congr fun a _ => bigSep_sep' _ _ _
theorem steps_both (Φ Ψ : Fin 14 → Fin 8 → sProp 𝕄) :
    (bigSepL steps fun s => bigSepL order fun t => iprop(Φ s t ∗ Ψ s t))
      = iprop((bigSepL steps fun s => bigSepL order fun t => Φ s t) ∗ bigSepL steps fun s => bigSepL order fun t => Ψ s t) := by
  rw [steps_eq, steps_eq, steps_eq, both_eq]
theorem order_both (Φ Ψ : Fin 8 → sProp 𝕄) : (bigSepL order fun t => iprop(Φ t ∗ Ψ t)) = iprop(bigSepL order Φ ∗ bigSepL order Ψ) := by
  rw [order_eq, order_eq, order_eq, bigSep_sep']

/-! ## What a device holds -/

/-- What a greeting needs: the two duties that it pays, its credit and its position. -/
def greetKit (c : Dev nD) (k : CK) : sProp 𝕄 :=
  iprop(dutyTok ER (kcell (prv c, k)) 0 true ∗ dutyTok ER (kcell (nxt c, k)) 0 false ∗ cred (tallyAt (kcell (c, k)) () 2) ∗ atPos ER (kcell (c, k)) 0 ∅ 0)
/-- What a device starts from. -/
def kit (c : Dev nD) : sProp 𝕄 :=
  iprop(greetKit c none ∗ greetKit c (some none) ∗ (bigSep Finset.univ fun t => bigSep Finset.univ fun s => ticket c t s)
    ∗ bigSep Finset.univ fun t => bigSep Finset.univ fun s => coming c t s)
/-- All its slots. -/
def slots (c : Dev nD) : sProp 𝕄 := bigSep Finset.univ fun t : Fin 8 => bigSep Finset.univ fun s : Fin 16 => slotAny (F := F) c t s
/-- The positions of its cells after the run. -/
def done (c : Dev nD) : sProp 𝕄 :=
  iprop(atPos ER (barCell c) 1 ∅ 0 ∗ atPos ER (bar2Cell c) 1 ∅ 0 ∗ (bigSep Finset.univ fun t => bigSep Finset.univ fun s => atPos ER (sendCell c t s) 1 ∅ 0)
    ∗ bigSep Finset.univ fun t => bigSep Finset.univ fun s => came c t s)

/-- The slots that a device lends, and those that it keeps. -/
theorem slots_first (c : Dev nD) : slots (F := F) c = iprop(bigSepL order (fun t => slotAny (F := F) c t 0) ∗ lent (F := F) c true ∗ lent (F := F) c false) := by
  unfold slots lent
  rw [order_eq, bigSep_congr (fun t _ => split_first fun s : Fin 16 => slotAny (F := F) c t s), bigSep_sep',
    bigSep_filter_split Finset.univ (fun t : Fin 8 => ahead t = true)
      (Φ := fun t => bigSep Finset.univ fun s : Fin 15 => slotAny (F := F) c t s.succ),
    show (Finset.univ.filter fun t : Fin 8 => ¬ ahead t = true) = Finset.univ.filter fun t : Fin 8 => ahead t = false from by decide]
  rfl
/-- The slots that came in the last step, and those sent on. -/
theorem slots_last (c : Dev nD) : slots (F := F) c
    = iprop(bigSepL order (fun t => slotAny (F := F) c t (Fin.last 15)) ∗ bigSep Finset.univ fun t => bigSep Finset.univ fun s : Fin 15 => slotAny (F := F) c t s.castSucc) := by
  unfold slots
  rw [order_eq, bigSep_congr (fun t _ => split_last fun s : Fin 16 => slotAny (F := F) c t s), bigSep_sep']

/-- The lent slots and the tickets, transfer by transfer. -/
theorem ready_all (c : Dev nD) :
    iprop((bigSep Finset.univ fun t : Fin 8 => bigSep Finset.univ fun s : Fin 15 => slotAny (F := F) (dst c t) t s.succ)
        ∗ bigSep Finset.univ fun t => bigSep Finset.univ fun s => ticket (F := F) c t s)
      = iprop(bigSepL order (fun t => ready c t 0) ∗ bigSepL steps fun s => bigSepL order fun t => ready c t s.succ) := by
  rw [← first_eq (fun t s => ready (F := F) c t s), ← both_eq]
  unfold ready
  rfl

/-! ## The body -/

theorem level_later : ∀ y ∈ later, 1 < level y.cell := by decide
theorem level_tail : ∀ y ∈ greets (some none), 2 + 14 < level y.cell := by decide

/-- The two greetings of the kernel. -/
theorem wp_greet1 (K : Dev nD × CK → ℕ) (c : Dev nD) (Q : sProp 𝕄) :
    iprop(ctx m ρ K ∗ greetKit c none ∗ (lent (F := F) c true ∗ lent (F := F) c false) ∗ owing c allDebts
        ∗ ((atPos ER (barCell c) 1 ∅ 0 ∗ (bigSep Finset.univ fun t : Fin 8 => bigSep Finset.univ fun s : Fin 15 => slotAny (F := F) (dst c t) t s.succ) ∗ owing c later) -∗ Q))
      ⊢ wpk c (greet barS (prv c) (nxt c)) fun _ => Q := by
  unfold greetKit
  iintro ⟨#Hctx, ⟨Ht, Ht', Hc, Hat⟩, ⟨Hl, Hl'⟩, Ho, Hk⟩
  iapply (wp_greet m ρ K c none barS rfl rfl (fun c => amount_k m ρ c none true) (fun c => amount_k m ρ c none false) (expect_bar m ρ c) later level_later)
  isplitr; · iexact Hctx
  isplitl [Ht]; · iexact Ht
  isplitl [Hl]; · unfold pay; dsimp only; rw [show greeter (prv c) true = c from nxt_prv c]; iexact Hl
  isplitl [Ht']; · iexact Ht'
  isplitl [Hl']; · unfold pay; dsimp only; rw [show greeter (nxt c) false = c from prv_nxt c]; iexact Hl'
  isplitl [Hc]; · iexact Hc
  isplitl [Hat]; · iexact Hat
  isplitl [Ho]; · iexact Ho
  iintro ⟨Hat, Hp, Ho⟩
  iapply Hk
  isplitl [Hat]; · iexact Hat
  isplitl [Hp]
  · iapply (BIBase.Entails.trans (Entails.of_eq ((rest_k m ρ c none).symm.trans (rest_bar m ρ c))) (lent_dst c)); iexact Hp
  iexact Ho

theorem wp_greet2 (K : Dev nD × CK → ℕ) (c : Dev nD) (Q : sProp 𝕄) :
    iprop(ctx m ρ K ∗ greetKit c (some none) ∗ owing c (greets (some none))
        ∗ ((atPos ER (bar2Cell c) 1 ∅ 0 ∗ owing c []) -∗ Q))
      ⊢ wpk c (greet bar2S (prv c) (nxt c)) fun _ => Q := by
  unfold greetKit
  iintro ⟨#Hctx, ⟨Ht, Ht', Hc, Hat⟩, Ho, Hk⟩
  iapply (wp_greet m ρ K c (some none) bar2S rfl rfl (fun c => amount_k m ρ c (some none) true) (fun c => amount_k m ρ c (some none) false)
    (expect_bar2 m ρ c) [] (fun y hy => absurd hy (List.not_mem_nil)))
  isplitr; · iexact Hctx
  isplitl [Ht]; · iexact Ht
  isplitr; · unfold pay; iempintro
  isplitl [Ht']; · iexact Ht'
  isplitr; · unfold pay; iempintro
  isplitl [Hc]; · iexact Hc
  isplitl [Hat]; · iexact Hat
  isplitl [Ho]; · iexact Ho
  iintro ⟨Hat, -, Ho⟩
  iapply Hk
  isplitl [Hat]; · iexact Hat
  iexact Ho

/-- The body: from what the device starts from to its result, its slots and its cells' positions after the run. -/
theorem wp_body (K : Dev nD × CK → ℕ) (c : Dev nD) (Q : sProp 𝕄) :
    iprop(ctx m ρ K ∗ kit c ∗ slots (F := F) c ∗ ops m ρ c ∗ outBut m ρ c order ∗ owing c allDebts
        ∗ ((done c ∗ slots (F := F) c ∗ ops m ρ c ∗ outBut m ρ c [] ∗ owing c []) -∗ Q))
      ⊢ wpk c (body xM wM oM cM cc0_scratch1 cc0_scoped0 c) fun _ => Q := by
  unfold body kit
  rw [dev1_eq, dev2_eq, dev123_eq, dev124_eq]
  iintro ⟨#Hctx, ⟨Hg, Hg', Htk, Hcm⟩, Hsl, Hx, Hout, Ho, Hk⟩
  ihave Hsl := (Entails.of_eq (slots_first (F := F) c)) $$ Hsl
  icases Hsl with ⟨Hs0, Hl⟩
  unfold wpk
  rw [wp_bind]
  iapply (wp_greet1 m ρ K c)
  isplitr; · iexact Hctx
  isplitl [Hg]; · iexact Hg
  isplitl [Hl]; · iexact Hl
  isplitl [Ho]; · iexact Ho
  iintro ⟨Hb, Hd, Ho⟩
  ihave Hr := (Entails.of_eq (ready_all (F := F) c)) $$ [Hd Htk]
  · isplitl [Hd]; · iexact Hd
    iexact Htk
  icases Hr with ⟨Hr0, Hr⟩
  rw [wp_bind]
  iapply (wp_opening m ρ K c ((steps.map Fin.succ).flatMap debts ++ greets (some none)))
  isplitr; · iexact Hctx
  isplitl [Hx]; · iexact Hx
  isplitl [Hs0 Hr0]
  · rw [order_both]
    isplitl [Hs0]; · iexact Hs0
    iexact Hr0
  isplitl [Ho]; · iexact Ho
  iintro ⟨Hx, Hf0, Ho⟩
  ihave Hcm := (Entails.of_eq (last_eq fun t s => coming (F := F) c t s)) $$ Hcm
  icases Hcm with ⟨HcL, Hcm⟩
  rw [wp_bind]
  iapply (wp_steps m ρ K c (greets (some none)) level_tail)
  isplitr; · iexact Hctx
  isplitl [Hx]; · iexact Hx
  isplitl [Hcm Hr]
  · rw [steps_both]
    isplitl [Hcm]; · iexact Hcm
    iexact Hr
  isplitl [Ho]; · iexact Ho
  iintro ⟨Hx, Hf, Ho⟩
  ihave Hf := (Entails.of_eq (steps_both (fun s t => came (F := F) c t s.castSucc) (fun s t => flying (F := F) c t s.succ))) $$ Hf
  icases Hf with ⟨Hcm, Hf⟩
  rw [wp_bind]
  iapply (wp_closing m ρ K c (greets (some none)) level_tail)
  isplitr; · iexact Hctx
  isplitl [Hx]; · iexact Hx
  isplitl [HcL]; · iexact HcL
  isplitl [Ho Hout]
  · isplitl [Ho]; · iexact Ho
    iexact Hout
  iintro ⟨Hx, HcL, Ho, Hout⟩
  ihave HcL := (Entails.of_eq (order_both (fun t => came (F := F) c t (Fin.last 14)) (fun t => slotAny (F := F) c t (Fin.last 15)))) $$ HcL
  icases HcL with ⟨HcL, Hs15⟩
  ihave Hcm := (Entails.of_eq (last_eq fun t s => came (F := F) c t s).symm) $$ [HcL Hcm]
  · isplitl [HcL]; · iexact HcL
    iexact Hcm
  ihave Hf := (Entails.of_eq ((first_eq fun t s => flying (F := F) c t s).symm.trans (sends_eq fun t s => flying (F := F) c t s).symm)) $$ [Hf0 Hf]
  · isplitl [Hf0]; · iexact Hf0
    iexact Hf
  rw [wp_bind]
  iapply (wp_sents m ρ K c (greets (some none)) (fun y hy => lt_of_le_of_lt (by omega) (level_tail y hy)))
  isplitr; · iexact Hctx
  isplitl [Hf]; · iexact Hf
  isplitl [Ho]; · iexact Ho
  iintro ⟨Hf, Ho⟩
  ihave Hf := (Entails.of_eq ((sends_eq fun t s => gone (F := F) c t s).trans
    (both_eq (fun t s => atPos ER (sendCell c t s) 1 ∅ 0) (fun t s => slotAny (F := F) c t s.castSucc)))) $$ Hf
  icases Hf with ⟨Hat, Hs⟩
  iapply (wp_greet2 m ρ K c)
  isplitr; · iexact Hctx
  isplitl [Hg']; · iexact Hg'
  isplitl [Ho]; · iexact Ho
  iintro ⟨Hb2, Ho⟩
  iapply Hk
  unfold done
  isplitl [Hb Hb2 Hat Hcm]
  · isplitl [Hb]; · iexact Hb
    isplitl [Hb2]; · iexact Hb2
    isplitl [Hat]; · iexact Hat
    iexact Hcm
  isplitl [Hs15 Hs]
  · rw [slots_last]
    isplitl [Hs15]; · iexact Hs15
    iexact Hs
  isplitl [Hx]; · iexact Hx
  isplitl [Hout]; · iexact Hout
  iexact Ho

end Cert.Ring

end
-- ==== Proof.Share.lean ====
/- How the launch deals out what it owns: cells, tokens, credits and slots, device by device. -/
module

public import proofs.«01_k».proof.Proof.Body
public import Idealize.ShloMosaic.Lib.Ring

@[expose] public section

set_option maxRecDepth 10000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device -/

/-- Over an option: the missing one, and the others. -/
theorem split_option {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by ext x; cases x <;> simp,
    bigSep_insert (by simp), bigSep_map]
  rfl
/-- Over a device's own cells: the second greeting's, the senders' and the receivers'. -/
theorem own_eq (Φ : OK → sProp 𝕄) : bigSep Finset.univ Φ = iprop(Φ none
    ∗ (bigSep Finset.univ fun t => bigSep Finset.univ fun s => Φ (some (0, t, s))) ∗ bigSep Finset.univ fun t => bigSep Finset.univ fun s => Φ (some (1, t, s))) := by
  rw [split_option, bigSep_univ_prod, bigSep_univ_two, bigSep_univ_prod, bigSep_univ_prod]
/-- Over all its cells. -/
theorem cells_eq (Φ : CK → sProp 𝕄) : bigSep Finset.univ Φ = iprop(Φ none ∗ Φ (some none)
    ∗ (bigSep Finset.univ fun t => bigSep Finset.univ fun s => Φ (some (some (0, t, s)))) ∗ bigSep Finset.univ fun t => bigSep Finset.univ fun s => Φ (some (some (1, t, s)))) := by
  rw [split_option, own_eq fun k => Φ (some k)]

/-- One state that may be used by every member of a family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans (sep_mono_left (BI.bigSep_of_persistent S R)) ?_
  rw [← bigSep_sep']
  exact bigSep_mono h

/-- The positions after the run, cell by cell. -/
theorem done_eq (c : Dev nD) : done (F := F) c = bigSep Finset.univ fun k : CK => atPos ER (kcell (c, k)) 1 ∅ 0 := by
  rw [cells_eq]; unfold done came; rfl

/-- After the run every cell of a device is closed, its counter at zero. -/
theorem close_cells (K : Dev nD × CK → ℕ) (c : Dev nD) :
    iprop(ctx m ρ K ∗ done (F := F) c) ⊢ |={Set.univ}=> bigSep Finset.univ fun k : CK => semVal (kcell (c, k)) 0 := by
  rw [done_eq]
  refine BIBase.Entails.trans (share_out (R := ctx m ρ K)
    (Ψ := fun k : CK => iprop(cellInv ER (ringRd m ρ) (K (c, k)) (kcell (c, k)) ∗ atPos ER (kcell (c, k)) 1 ∅ 0)) fun k _ => ?_)
    (Rounds.cells_close ER (ringRd m ρ) Finset.univ (fun k => kcell (c, k)) (fun k => K (c, k)) (fun _ _ => Set.mem_univ _) (fun _ _ h => h) (fun _ => 1)
      fun k _ => duties_later m ρ (kcell (c, k)))
  iintro ⟨#Hctx, H⟩
  isplitr
  · iapply (ctx_inv m ρ K (c, k)); iexact Hctx
  · iexact H

/-! ## The duties' tokens -/

/-- The tokens of a device's own cells; -/
def toks (c : Dev nD) : sProp 𝕄 := bigSep Finset.univ fun k : CK => bigSep Finset.univ fun d : Bool => dutyTok ER (kcell (c, k)) 0 d
/-- those that stand for duties; -/
def mine (c : Dev nD) : sProp 𝕄 :=
  iprop((dutyTok ER (barCell c) 0 true ∗ dutyTok ER (barCell c) 0 false) ∗ (dutyTok ER (bar2Cell c) 0 true ∗ dutyTok ER (bar2Cell c) 0 false)
    ∗ (bigSep Finset.univ fun t => bigSep Finset.univ fun s => dutyTok ER (sendCell c t s) 0 false)
    ∗ bigSep Finset.univ fun t => bigSep Finset.univ fun s => dutyTok ER (recvCell c t s) 0 false)
/-- and those of the duties that the device pays. -/
def payToks (c : Dev nD) : sProp 𝕄 :=
  iprop((dutyTok ER (barCell (prv c)) 0 true ∗ dutyTok ER (barCell (nxt c)) 0 false) ∗ (dutyTok ER (bar2Cell (prv c)) 0 true ∗ dutyTok ER (bar2Cell (nxt c)) 0 false)
    ∗ (bigSep Finset.univ fun t => bigSep Finset.univ fun s => dutyTok ER (sendCell c t s) 0 false)
    ∗ bigSep Finset.univ fun t => bigSep Finset.univ fun s => dutyTok ER (recvCell (dst c t) t s) 0 false)

theorem both_toks (g : GSem nD τ sig) : (bigSep Finset.univ fun d : Bool => (dutyTok ER g 0 d : sProp 𝕄)) = iprop(dutyTok ER g 0 true ∗ dutyTok ER g 0 false) := by
  rw [bigSep_univ_eq_bigSepL [true, false] (by decide) (by decide), bigSepL_cons_cons, bigSepL_singleton]; rfl
theorem one_tok (g : GSem nD τ sig) : (bigSep Finset.univ fun d : Bool => (dutyTok ER g 0 d : sProp 𝕄)) ⊢ dutyTok ER g 0 false := bigSep_elim (Finset.mem_univ false)

theorem toks_mine (c : Dev nD) : toks (F := F) c ⊢ mine c := by
  unfold toks mine
  rw [cells_eq, both_toks, both_toks]
  exact Idealize.SL.BI.sep_mono (BI.Entails.refl _) (Idealize.SL.BI.sep_mono (BI.Entails.refl _) (Idealize.SL.BI.sep_mono
    (bigSep_mono fun t _ => bigSep_mono fun s _ => one_tok (sendCell c t s)) (bigSep_mono fun t _ => bigSep_mono fun s _ => one_tok (recvCell c t s))))

/-- What every strip's receivers hold, dealt to their senders. -/
theorem along_road (Φ : Dev nD → Fin 8 → sProp 𝕄) :
    (bigSep Finset.univ fun c : Dev nD => bigSep Finset.univ fun t => Φ c t) = bigSep Finset.univ fun c : Dev nD => bigSep Finset.univ fun t => Φ (dst c t) t := by
  rw [bigSep_univ_comm, bigSep_univ_comm (fun c t => Φ (dst c t) t)]
  exact bigSep_congr fun t _ => bigSep_univ_equiv (road t) fun c => Φ c t

/-- All tokens, dealt to the devices that pay. -/
theorem toks_around : (bigSep Finset.univ fun c : Dev nD => toks (F := F) c) ⊢ bigSep Finset.univ fun c : Dev nD => payToks (F := F) c := by
  refine BIBase.Entails.trans (bigSep_mono fun c _ => toks_mine (F := F) c) (Entails.of_eq ?_)
  unfold mine payToks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring.symm (fun c : Dev nD => (dutyTok ER (bar2Cell c) 0 true : sProp 𝕄)),
    bigSep_univ_equiv ring (fun c : Dev nD => (dutyTok ER (bar2Cell c) 0 false : sProp 𝕄)),
    along_road fun c t => bigSep Finset.univ fun s => (dutyTok ER (recvCell c t s) 0 false : sProp 𝕄)]
  rfl

/-! ## The credits -/

theorem bigSepL_flatMap {α β : Type} (f : α → List β) (l : List α) (Φ : β → sProp 𝕄) :
    bigSepL (l.flatMap f) Φ = bigSepL l fun a => bigSepL (f a) Φ := by
  induction l with
  | nil => rfl
  | cons a l ih => rw [List.flatMap_cons, bigSepL_append, bigSepL_cons', ih]

theorem two_creds (g : GSem nD τ sig) : iprop(cred (tallyAt g () 1) ∗ cred (tallyAt g () 1)) ⊢ (cred (tallyAt g () 2) : sProp 𝕄) := by
  refine BIBase.Entails.trans (cred_add _ _).2 (Entails.of_eq ?_)
  rw [tallyAt_add]

/-- The credits that a device starts with. -/
def credits (c : Dev nD) : sProp 𝕄 :=
  iprop(cred (tallyAt (barCell c) () 2) ∗ cred (tallyAt (bar2Cell c) () 2)
    ∗ bigSep Finset.univ fun t => bigSep Finset.univ fun s => cred (tallyAt (recvCell c t s) () N))

theorem creds (c : Dev nD) : (Pipeline.launchCred O₀ c : sProp 𝕄) ⊢ credits c := by
  refine BIBase.Entails.trans (launchCred_owedL allDebts c) ?_
  unfold allDebts later greets debts credits
  rw [first_eq fun t s => (cred (tallyAt (recvCell c t s) () N) : sProp 𝕄)]
  simp only [bigSepL_append, bigSepL_flatMap, bigSepL_map, bigSepL_cons_cons, bigSepL_singleton]
  iintro ⟨H1, H0, Hs, H2⟩
  isplitl [H1]; · iapply (two_creds (F := F)); iexact H1
  isplitl [H2]; · iapply (two_creds (F := F)); iexact H2
  isplitl [H0]; · iexact H0
  iexact Hs

/-- Positions, tokens and credits make a device's kit. -/
theorem kit_intro (c : Dev nD) :
    iprop((bigSep Finset.univ fun k : CK => atPos ER (kcell (c, k)) 0 ∅ 0) ∗ payToks (F := F) c ∗ credits c) ⊢ kit c := by
  rw [cells_eq]
  unfold payToks credits kit greetKit ticket coming
  simp only [both_eq]
  iintro ⟨⟨Hb, Hb2, Hs, Hr⟩, ⟨⟨Ht1, Ht2⟩, ⟨Ht3, Ht4⟩, Ht5, Ht6⟩, Hc1, Hc2, Hc3⟩
  isplitl [Hb Ht1 Ht2 Hc1]
  · isplitl [Ht1]; · iexact Ht1
    isplitl [Ht2]; · iexact Ht2
    isplitl [Hc1]; · iexact Hc1
    iexact Hb
  isplitl [Hb2 Ht3 Ht4 Hc2]
  · isplitl [Ht3]; · iexact Ht3
    isplitl [Ht4]; · iexact Ht4
    isplitl [Hc2]; · iexact Hc2
    iexact Hb2
  isplitl [Hs Ht5 Ht6]
  · isplitl [Hs]; · iexact Hs
    isplitl [Ht5]; · iexact Ht5
    iexact Ht6
  isplitl [Hc3]; · iexact Hc3
  iexact Hr

/-! ## The slots -/

/-- The elements of a slot: those whose first two coordinates name it. -/
theorem mem_slot (t : Fin 8) (s : Fin 16) (i : cM.view.ty.Idx) : i ∈ (slot t s).view.set ↔ (i 0).val = t.val ∧ (i 1).val = s.val := by
  rw [slot_set, show (i ∈ cM.view.setOn (slotR t s).toLoadRect.set) = (cM.view.emb i ∈ cM.view.setOn (slotR t s).toLoadRect.set) from rfl, View.mem_setOn,
    Rect.mem_set_unit]
  constructor
  · intro h
    have h0 := h 0; have h1 := h 1
    simp at h0 h1
    omega
  · rintro ⟨h0, h1⟩ a
    have := (i a).isLt
    fin_cases a <;> simp_all <;> omega

/-- The element set of a slot, by the slot's name. -/
def slotI (ts : Fin 8 × Fin 16) : Finset cM.view.ty.Idx := (slot ts.1 ts.2).view.set

theorem slotI_disjoint (b b' : Fin 8 × Fin 16) (h : b ≠ b') : Disjoint (slotI b) (slotI b') :=
  Finset.disjoint_left.mpr fun i hi hi' => h (by
    have h1 := (mem_slot _ _ i).mp hi; have h2 := (mem_slot _ _ i).mp hi'
    exact Prod.ext (Fin.ext (h1.1.symm.trans h2.1)) (Fin.ext (h1.2.symm.trans h2.2)))
theorem slotI_cover : Finset.univ.biUnion slotI = Finset.univ :=
  Finset.eq_univ_iff_forall.mpr fun i => Finset.mem_biUnion.mpr ⟨(⟨(i 0).val, (i 0).isLt⟩, ⟨(i 1).val, (i 1).isLt⟩), Finset.mem_univ _, (mem_slot _ _ i).mpr ⟨rfl, rfl⟩⟩

/-- A slot with some contents, by its elements. -/
theorem slotAny_elim (c : Dev nD) (t : Fin 8) (s : Fin 16) :
    slotAny (F := F) c t s ⊢ iprop(∃ f : Buf (Elt F) ((c : Thread nD τ).loc cc0_scratch0), ((c : Thread nD τ).loc cc0_scratch0) ↦[slotI (t, s)]{fullShare} f) := by
  unfold slotAny slotHas owns
  iintro ⟨%v, %f, -, H⟩
  iexists f; iexact H
@[inherit_doc slotAny_elim] theorem slotAny_intro (c : Dev nD) (t : Fin 8) (s : Fin 16) (f : Buf (Elt F) ((c : Thread nD τ).loc cc0_scratch0)) :
    (((c : Thread nD τ).loc cc0_scratch0) ↦[slotI (t, s)]{fullShare} f : sProp 𝕄) ⊢ slotAny (F := F) c t s := by
  unfold slotAny slotHas owns
  iintro H
  iexists ((slot t s).view.read (Elt F) f); iexists f
  isplitr; · ipureintro; rfl
  iexact H

/-- The communication buffer is its slots. -/
theorem slots_intro (c : Dev nD) (f : Buf (Elt F) ((c : Thread nD τ).loc cc0_scratch0)) :
    (((c : Thread nD τ).loc cc0_scratch0) ↦{fullShare} f : sProp 𝕄) ⊢ slots (F := F) c := by
  rw [Idealize.ShloMosaic.Ring.pointsTo_blocks (ℓ := (c : Thread nD τ).loc cc0_scratch0) slotI slotI_disjoint slotI_cover f, bigSep_univ_prod]
  unfold slots
  exact bigSep_mono fun t _ => bigSep_mono fun s _ => slotAny_intro c t s f
theorem slots_elim (c : Dev nD) (f₀ : Buf (Elt F) ((c : Thread nD τ).loc cc0_scratch0)) :
    slots (F := F) c ⊢ (iprop(∃ f, ((c : Thread nD τ).loc cc0_scratch0) ↦{fullShare} f) : sProp 𝕄) := by
  refine BIBase.Entails.trans ?_
    (Idealize.ShloMosaic.Ring.pointsTo_blocks_join_exists (ℓ := (c : Thread nD τ).loc cc0_scratch0) slotI slotI_disjoint slotI_cover f₀)
  rw [bigSep_univ_prod]
  unfold slots
  exact bigSep_mono fun t _ => bigSep_mono fun s _ => slotAny_elim c t s

end Cert.Ring

end
-- ==== Proof.Run.lean ====
/- The run of the program: the kernel's body as the launch asks for it, the launch, and what every run ends in. -/
module

public import proofs.«01_k».proof.Proof.Share
public import proofs.«01_k».proof.Proof.Gen.KernelIdeal.Frame
public import Idealize.ShloMosaic.Lib.Quiescent
public import Idealize.ShloMosaic.Lib.Pipeline.CollectiveSegs

@[expose] public section

set_option maxRecDepth 10000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The strip and the place in it of an element of the result. -/
def stripOf (i : S128x2048.Idx) : Fin 8 := ⟨(i 1).val / 256, by have : (i 1).val < 2048 := (i 1).isLt; omega⟩
@[inherit_doc stripOf] def inStrip (i : S128x2048.Idx) : S128x256.Idx :=
  Shape.pair ⟨(i 0).val, (i 0).isLt⟩ ⟨(i 1).val % 256, Nat.mod_lt _ (by decide)⟩

/-- The kernel's result on device `c`: strip by strip the sum after the last step. -/
def outAt (c : Dev nD) : (cc0_stg2_0 : Ref sig .tc).ty.Contents (Elt F) := fun i => part m ρ (stripOf i) 15 c (inStrip i)

theorem out_emb (i : S128x2048.Idx) : (oM.access (outR (stripOf i))).emb (inStrip i) = i := by
  show (outR (stripOf i)).emb (inStrip i) = i
  funext a
  apply Fin.ext
  rw [Rect.emb_apply]
  fin_cases a
  · show 0 + 1 * (i 0).val = (i 0).val
    omega
  · show (i 1).val / 256 * 256 + 1 * ((i 1).val % 256) = (i 1).val
    omega

/-- All strips done, the result is there. -/
theorem out_whole (c : Dev nD) (f : oM.view.ty.Contents (Elt F)) (h : ∀ t, t ∉ ([] : List (Fin 8)) → (oM.access (outR t)).read (Elt F) f = part m ρ t 15 c) :
    f = outAt m ρ c := by
  funext i
  have e := congrFun (h (stripOf i) List.not_mem_nil) (inStrip i)
  rw [View.read_apply, out_emb] at e
  exact e

/-- Before the closing nothing is said of the result. -/
theorem outBut_intro (c : Dev nD) (f : oM.view.ty.Contents (Elt F)) :
    (((c : Thread nD τ).loc cc0_stg2_0) ↦{fullShare} f : sProp 𝕄) ⊢ outBut m ρ c order := by
  unfold outBut
  iintro H
  iexists f
  isplitr
  · ipureintro; intro t ht; exact absurd (by revert t; decide) ht
  iexact H
theorem outBut_elim (c : Dev nD) : outBut m ρ c [] ⊢ (((c : Thread nD τ).loc cc0_stg2_0) ↦{fullShare} outAt m ρ c : sProp 𝕄) := by
  unfold outBut
  iintro ⟨%f, %hf, H⟩
  have e := out_whole m ρ c f hf
  subst e
  iexact H

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from: the records under some names, the levels and its kit. -/
def start (c : Dev nD) : sProp 𝕄 := iprop((∃ K, ctx m ρ K) ∗ kit c)
/-- Before the body: that, and the slots; -/
def Φ₀ (c : Dev nD) : sProp 𝕄 := iprop(start m ρ c ∗ slots c)
/-- after it: the slots, and every cell closed. -/
def Φ₁ (c : Dev nD) : sProp 𝕄 := iprop(slots c ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wAt m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_x (t : Fin cfg0.N) : (cfg0.win (0 : Fin 3)).fetch t = true := by rw [fin_N t]; rfl
theorem fetch_w (t : Fin cfg0.N) : (cfg0.win (1 : Fin 3)).fetch t = true := by rw [fin_N t]; rfl

/-- A staging buffer held at contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xAt m ρ c) ∗ stg c cc0_stg1_0 (wAt m ρ c) ∗ stg c cc0_stg2_0 (outAt m ρ c))

/-- A program that asks for the device's number goes on with it. -/
theorem wp_number (c : Dev nD) (p : Dev nD → Kern F PUnit) (Q : PUnit → sProp 𝕄) : wpk c (p c) Q ⊢ wpk c (Prog.lift .deviceId >>= p) Q := by
  unfold wpk
  rw [wp_bind]
  simp only [Prog.lift, wp_deviceId, wp_ret]
  exact fupd_intro

/-- The printed body is the loops' body at the device's own number. -/
theorem wp_printed (c : Dev nD) (Q : PUnit → sProp 𝕄) :
    wpk c (body xM wM oM cM cc0_scratch1 cc0_scoped0 c) Q
      ⊢ wp frame (wpE (defs₀ (F := F)) 𝒱₀ c none) Set.univ
          (cc0_body xM (Memref.isWhole_whole _) wM (Memref.isWhole_whole _) oM (Memref.isWhole_whole _) cM (Memref.isWhole_whole _) cc0_scratch1 cc0_scoped0) Q := by
  rw [cc0_body_eq]
  exact wp_number c (fun c => body xM wM oM cM cc0_scratch1 cc0_scoped0 c) Q

theorem body_run (c : Dev nD) : bodyPre m ρ c ⊢ wpk c (body xM wM oM cM cc0_scratch1 cc0_scoped0 c) (fun _ => bodyPost m ρ c) := by
  unfold bodyPre Φ₀ start
  iintro ⟨⟨⟨⟨%K, #Hctx⟩, Hkit⟩, Hsl⟩, Ho, ⟨%d0, %g0, %hg0, Hx⟩, ⟨%d1, %g1, %hg1, Hw⟩, ⟨%d2, %g2, %hg2, Hout⟩⟩
  have hx : g0 = xAt m ρ c := by rw [hg0]; unfold Dat.before; rw [if_pos (fetch_x t₀)]; rfl
  have hw : g1 = wAt m ρ c := by rw [hg1]; unfold Dat.before; rw [if_pos (fetch_w t₀)]; rfl
  subst hx hw
  ihave Ho := (show (dats m ρ 0 c).owesAt () t₀.castSucc ⊢ owing (F := F) c allDebts from by
    unfold Dat.owesAt Pipeline.owesWithin owing
    iintro ⟨%W, %hW, HO⟩
    iexists W; iexact HO) $$ Ho
  iapply wp_fupd
  iapply (wp_body m ρ K c)
  isplitr; · iexact Hctx
  isplitl [Hkit]; · iexact Hkit
  isplitl [Hsl]; · iexact Hsl
  isplitl [Hx Hw]
  · unfold ops
    isplitl [Hx]; · iexact Hx
    iexact Hw
  isplitl [Hout]; · iapply (outBut_intro m ρ c g2); iexact Hout
  isplitl [Ho]; · iexact Ho
  iintro ⟨Hd, Hsl, Hops, Hout, Ho⟩
  imod (close_cells m ρ K c) $$ [Hd] with Hv
  · isplitr; · iexact Hctx
    iexact Hd
  imodintro
  unfold bodyPost Φ₁
  isplitl [Hsl Hv]
  · isplitl [Hsl]; · iexact Hsl
    iexact Hv
  isplitl [Ho]
  · unfold Dat.owesAt Pipeline.owesWithin owing
    icases Ho with ⟨%W, HO⟩
    iexists W
    isplitr; · ipureintro; exact fun _ _ => Or.inl trivial
    iexact HO
  unfold ops
  icases Hops with ⟨Hx, Hw⟩
  isplitl [Hx]
  · iexists _; isplitr; · (ipureintro; rfl)
    iexact Hx
  isplitl [Hw]
  · iexists _; isplitr; · (ipureintro; rfl)
    iexact Hw
  iexists _; isplitr; · (ipureintro; rfl)
  iapply (outBut_elim m ρ c); iexact Hout

set_option maxRecDepth 100000 in
/-- The library's obligation on the body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) cM (Memref.isWhole_whole _) cc0_scratch1 cc0_scoped0)
    (fun _ => bodyPost m ρ c)
  exact BIBase.Entails.trans (body_run m ρ c) (wp_printed c _)

end Cert.Ring

end
-- ==== Proof.Launched.lean ====
/- The launch of the kernel on all devices, and what every run of the program ends in. -/
module

public import proofs.«01_k».proof.Proof.Run

@[expose] public section

set_option maxRecDepth 10000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem dma_ne_xfer (q : DmaSem sig) (hq : q.val < 3) (k : Fin 2) (t : Fin 8) (s : Fin 15) : (SemLoc.dma (xferS k t s) : SemLoc sig) ≠ .dma q := by
  intro h
  have := congrArg Fin.val (SemLoc.dma.inj h)
  rw [xferS_val] at this
  omega
/-- The staging buffers' semaphores come before the kernel's own. -/
theorem stage_sem : ∀ (w : Fin cfg0.W) (s : Fin (cfg0.win w).nbuf), ((cfg0.win w).sem s).val < 3 := by decide

theorem osem_ne (q : DmaSem sig) (hq : q.val < 3) : ∀ k, osem k ≠ .dma q
  | none => fun h => by unfold osem at h; cases h
  | some (k, t, s) => dma_ne_xfer q hq k t s
theorem csem_ne (q : DmaSem sig) (hq : q.val < 3) : ∀ k, csem k ≠ .dma q
  | none => fun h => by unfold csem at h; cases h
  | some k => osem_ne q hq k

theorem scoped_dma (q : DmaSem sig) : (SemLoc.dma q : SemLoc sig).isScoped .tc = true := by revert q; decide +kernel
theorem osem_scoped : ∀ k, (osem k).isScoped .tc = true
  | none => by decide
  | some (k, t, s) => scoped_dma (xferS k t s)

theorem ownSemFacts : Pipeline.OwnSemFacts cfg0.spec osem := ⟨osem_scoped, osem_injective, fun k w s => osem_ne _ (stage_sem w s) k⟩

theorem share_eq (c : Dev nD) (w : Fin cfg0.W) : (dats m ρ 0 c).share w = fullShare := by unfold Dat.share; split <;> rfl

/-- All cells of the ring, and all tokens. -/
def ringCells : Finset (GSem nD τ sig) := Finset.univ.map ⟨kcell, kcell_injective⟩
abbrev tokOf (x : Dev nD × CK × Bool) : GSem nD τ sig × ℕ × Bool := (kcell (x.1, x.2.1), 0, x.2.2)
theorem tokOf_injective : Function.Injective tokOf := by
  rintro ⟨c, k, d⟩ ⟨c', k', d'⟩ h
  obtain ⟨rfl, rfl⟩ := Prod.mk.inj (kcell_injective (congrArg Prod.fst h))
  have e : d = d' := congrArg (fun x : GSem nD τ sig × ℕ × Bool => x.2.2) h
  rw [e]
def ringToks : Finset (GSem nD τ sig × ℕ × Bool) := Finset.univ.map ⟨tokOf, tokOf_injective⟩

/-- The ghost state at launch. -/
def u₀ : UU := (initOf (Pipeline.cells cfgs cellOf_inj) (Pipeline.launchToks cfgs cellOf_inj), initOf ringCells ringToks)

/-- What it deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)
/-- What the devices make of it together. -/
def G' (c : Dev nD) : sProp 𝕄 := iprop((∃ K, records m ρ K) ∗ (bigSep Finset.univ fun k : CK => atPos ER (kcell (c, k)) 0 ∅ 0) ∗ payToks (F := F) c)

theorem over_cells (Φ : GSem nD τ sig → sProp 𝕄) : bigSep ringCells Φ = bigSep Finset.univ fun c : Dev nD => bigSep Finset.univ fun k : CK => Φ (kcell (c, k)) := by
  unfold ringCells; rw [bigSep_map, bigSep_univ_prod]; rfl
theorem over_toks : bigSep ringToks (fun x => (dutyTok ER x.1 x.2.1 x.2.2 : sProp 𝕄)) = bigSep Finset.univ fun c : Dev nD => toks (F := F) c := by
  unfold ringToks toks
  rw [bigSep_map, bigSep_univ_prod]
  exact bigSep_congr fun c _ => by rw [bigSep_univ_prod]; rfl

theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst' := (Entails.of_eq (over_cells fun g => roundState ER (ringRd m ρ) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G
  simp only [bigSep_sep']
  isplitl [Hst']; · iexact Hst'
  isplitl [Hat' Hr']
  · isplitl [Hat']; · iexact Hat'
    iexact Hr'
  iexact Htok'

/-- The first greeting's semaphore is the one that outlives the kernel. -/
theorem unscoped_eq (c : Dev nD) : (unscopedSems0 c : sProp 𝕄) = semVal (barCell c) 0 := by
  unfold unscopedSems0; rw [bigSep_eq_bigSepL_of_eq [SemLoc.reg barS] (by decide +kernel) (by decide)]; rfl
/-- All cells' counters. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [unscoped_eq, split_option]; rfl

/-- A device's own part in setting up the cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c)) $$ [Hos Hus]
  · isplitl [Hus]; · iexact Hus
    iexact Hos
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem give (K : Dev nD × CK → ℕ) (c : Dev nD) :
    iprop(records m ρ K ∗ ((bigSep Finset.univ fun k : CK => atPos ER (kcell (c, k)) 0 ∅ 0) ∗ payToks (F := F) c)) ⊢ G' m ρ c := by
  unfold G'
  iintro ⟨#HR, Hat, Htok⟩
  isplitr; · iexists K; iexact HR
  isplitl [Hat]; · iexact Hat
  iexact Htok

/-- The parts of all devices put together and dealt out again. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    both_eq (fun (c : Dev nD) (k : CK) => (atPos ER (kcell (c, k)) 0 ∅ 0 : sProp 𝕄)) (fun c k => reached ER (kcell (c, k)) 0),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (share_out (R := records m ρ K) fun c _ => give m ρ K c)
  isplitr
  · unfold records
    isplitl; · iexact HI
    iexact HR
  rw [bigSep_sep']
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The kernel's entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G' ctx
  icases HG with ⟨⟨%K, HR⟩, Hat, Htok⟩
  isplitl
  · isplitl [HR Hlev]
    · iexists K
      isplitl [HR]; · iexact HR
      iexact Hlev
    iapply (kit_intro (F := F) c)
    isplitl [Hat]; · iexact Hat
    isplitl [Htok]; · iexact Htok
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iapply (slots_intro c f); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hr, Hv⟩
  ihave Hv := (Entails.of_eq (sems_eq (F := F) c).symm) $$ Hv
  icases Hv with ⟨Hu, Ho⟩
  isplitl [Hu]; · iexact Hu
  isplitl [Ho]; · iexact Ho
  iapply (slots_elim c (m ((c : Thread nD τ).loc cc0_scratch0))); iexact Hr

/-- While a staging buffer is waited for, all debts are above it. -/
theorem level_pos : ∀ y ∈ allDebts, 0 < level y.cell := by decide
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have h0 : lv ((c : Thread nD τ), (SemLoc.dma q : SemLoc sig)) () = 0 := by
    unfold lv; rw [role_none (csem_ne q hq)]; rfl
  rcases hO with rfl | rfl
  · exact mayWait_owed c (.dma q) allDebts fun x hx => by rw [h0]; exact level_pos x hx
  · exact mayWait_owed c (.dma q) [] fun x hx => absurd hx List.not_mem_nil

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with its counters at zero, on sixteen devices and for any float values: every fair execution of the
    program ends, each device's arrays are as computed, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Ring

end
-- ==== Proof.Same.lean ====
/- The kernel as printed for bit patterns and as printed for exact arithmetic is one program. -/
module

public import proofs.«01_k».proof.Proof.Gen.Kernel.Skeleton
public import proofs.«01_k».proof.Proof.Program

@[expose] public section

set_option maxRecDepth 10000

noncomputable section

namespace Cert.Ring

open Idealize.ShloMosaic Idealize.SL.Sem

variable {F : FTy → Type} [FloatOps F]

open Cert.KernelIdeal in
set_option maxRecDepth 100000 in
/-- The two printed bodies are the same loops. -/
theorem bodies_eq (x : Memref sig .tc .vmem S2048x128 .f32) (hx : x.IsWhole) (w : Memref sig .tc .vmem S128x2048 .f32) (hw : w.IsWhole)
    (out : Memref sig .tc .vmem S128x2048 .f32) (hout : out.IsWhole) (comm : Memref sig .tc .vmem S8x16x128x256 .f32) (hcomm : comm.IsWhole)
    (sems : DmaSems sig S2x8x16) (bar2 : Sems sig S_) :
    Cert.Kernel.cc0_body (F := F) x hx w hw out hout comm hcomm sems bar2 = Cert.KernelIdeal.cc0_body (F := F) x hx w hw out hout comm hcomm sems bar2 := by
  rw [cc0_body_eq]
  chain_rfl

/-- So the tables of the two kernels agree, -/
theorem tables_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => exact bodies_eq _ _ _ _ _ _ _ _ _ _

/-- and the tables of the two programs. -/
theorem defs_eq : Cert.Kernel.defs (F := F) = Cert.KernelIdeal.defs (F := F) :=
  congrArg (Pipeline.defs Cert.KernelIdeal.pcfgs) tables_eq

end Cert.Ring

end
-- ==== Proof.Values.lean ====
/- What the kernel's result is in exact arithmetic: each device's block of the whole product. -/
module

public import proofs.«01_k».proof.Proof.Launched
public import Idealize.ShloMosaic.Lib.Pointwise
public import Idealize.ShloMosaic.Lib.Layout

@[expose] public section

set_option maxRecDepth 10000

noncomputable section

namespace Cert.Ring

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-! ## One product of two blocks -/

/-- Device `c`'s columns of the left matrix, and its rows of the right one. -/
abbrev xBuf (c : Dev nD) : S2048x128.Idx → EReal := m ((c : Thread nD τ).loc main_arg0)
@[inherit_doc xBuf] abbrev wBuf (c : Dev nD) : S128x2048.Idx → EReal := m ((c : Thread nD τ).loc main_arg1)

/-- The staged left block is the argument itself; -/
theorem xAt_eq (c : Dev nD) : xAt m ρ c = m ((c : Thread nD τ).loc main_arg0) :=
  Memref.read_access_unit_zero (Elt Ideal) main_arg0 (funext fun a => by fin_cases a <;> decide) (fun a => by fin_cases a <;> decide) _
/-- and so is the staged right one. -/
theorem wAt_eq (c : Dev nD) : wAt m ρ c = m ((c : Thread nD τ).loc main_arg1) :=
  Memref.read_access_unit_zero (Elt Ideal) main_arg1 (funext fun a => by fin_cases a <;> decide) (fun a => by fin_cases a <;> decide) _

/-- What device `d` adds to entry `(i, j)` of block `b` of the result's rows. -/
def addend (d : Dev nD) (b : Fin 16) (i : Fin 128) (j : Fin 2048) : EReal :=
  ∑ k : Fin 128, xBuf m d (ix2 ⟨b.val * 128 + i.val, by omega⟩ k) * wBuf m d (ix2 k j)

/-- A half product, entry by entry. -/
theorem prod_apply (x : FVec Ideal S128x128 .f32) (w : FVec Ideal S128x1024 .f32) (j : S128x1024.Idx) :
    prod x w j = ∑ k : Fin 128, x (ix2 (j 0) k) * w (ix2 k (j 1)) := by
  pointwise [prod]

/-- Block `b` of a left matrix, entry by entry; -/
theorem read_rows (b : Fin 16) (x : S2048x128.Idx → EReal) (i k : Fin 128) :
    xM.view.readAt (Elt Ideal) (rowR b).toLoadRect x (ix2 i k) = x (ix2 ⟨b.val * 128 + i.val, by omega⟩ k) := by
  refine congrArg x (funext fun a => Fin.ext ?_)
  fin_cases a
  · show b.val * 128 + 1 * i.val = b.val * 128 + i.val
    omega
  · show 0 + 1 * k.val = k.val
    omega
/-- half `h` of a right one. -/
theorem read_half (h : Fin 2) (w : S128x2048.Idx → EReal) (k : Fin 128) (j : Fin 1024) :
    wM.view.readAt (Elt Ideal) (halfR h).toLoadRect w (ix2 k j) = w (ix2 k ⟨h.val * 1024 + j.val, by omega⟩) := by
  refine congrArg w (funext fun a => Fin.ext ?_)
  fin_cases a
  · show 0 + 1 * k.val = k.val
    omega
  · show h.val * 1024 + 1 * j.val = h.val * 1024 + j.val
    omega

/-- A half product of the kernel is what the device adds to that block, in that half of the columns. -/
theorem prodAt_apply (c : Dev nD) (b : Fin 16) (h : Fin 2) (i : Fin 128) (j : Fin 1024) :
    prodAt m ρ c b h (ix2 i j) = addend m c b i ⟨h.val * 1024 + j.val, by omega⟩ := by
  unfold prodAt addend
  rw [prod_apply, xAt_eq, wAt_eq]
  exact Finset.sum_congr rfl fun k _ => congrArg₂ (· * ·) (read_rows b (xBuf m c) i k) (read_half h (wBuf m c) k j)

/-! ## The running sums -/

/-- The block that strip `t` of device `c` is of in step `n`. -/
def chunk (t : Fin 8) (c : Dev nD) (n : ℕ) : Fin 16 := ofHalf t (chunkL c n) (chunkR c n)
/-- The device `k` steps before `c` on strip `t`'s road. -/
def back (t : Fin 8) (c : Dev nD) (k : ℕ) : Dev nD :=
  ofHalf t ⟨(c.val + 15 * k) % 16, Nat.mod_lt _ (by decide)⟩ ⟨(c.val + k) % 16, Nat.mod_lt _ (by decide)⟩

/-- The column of the result that column `j` of strip `t` is. -/
def column (t : Fin 8) (j : Fin 256) : Fin 2048 := ⟨t.val * 256 + j.val, by omega⟩

/-- A strip of a step's half products is what the device adds there. -/
theorem strip_apply (t : Fin 8) (c : Dev nD) (n : ℕ) (i : Fin 128) (j : Fin 256) :
    strip (lAt m ρ c n) (rAt m ρ c n) t (ix2 i j) = addend m c (chunk t c n) i (column t j) := by
  have ht : t.val % 4 * 256 + j.val < 1024 := by omega
  have e : strip (lAt m ρ c n) (rAt m ρ c n) t (ix2 i j) = ofHalf t (lAt m ρ c n) (rAt m ρ c n) (ix2 i ⟨t.val % 4 * 256 + j.val, ht⟩) := by
    refine congrArg (ofHalf t (lAt m ρ c n) (rAt m ρ c n)) (funext fun a => Fin.ext ?_)
    fin_cases a
    · show 0 + i.val = i.val
      omega
    · rfl
  rw [e]
  unfold ofHalf chunk ofHalf lAt rAt
  split
  · rw [prodAt_apply]
    exact congrArg (addend m c _ i) (Fin.ext (by show 0 * 1024 + (t.val % 4 * 256 + j.val) = t.val * 256 + j.val; omega))
  · rw [prodAt_apply]
    exact congrArg (addend m c _ i) (Fin.ext (by show 1 * 1024 + (t.val % 4 * 256 + j.val) = t.val * 256 + j.val; omega))

/-- The strip that arrives is of the block that the device adds to it; -/
theorem chunk_src (t : Fin 8) (c : Dev nD) (n : ℕ) : chunk t (src c t) n = chunk t c (n + 1) := by
  unfold chunk src road ofHalf
  split
  · exact Fin.ext (by show ((c.val + 15) % 16 + 15 * (n + 1)) % 16 = (c.val + 15 * (n + 1 + 1)) % 16; omega)
  · exact Fin.ext (by show ((c.val + 1) % 16 + (n + 1)) % 16 = (c.val + (n + 1 + 1)) % 16; omega)
/-- the devices behind the one before are the devices behind. -/
theorem back_src (t : Fin 8) (c : Dev nD) (k : ℕ) : back t (src c t) k = back t c (k + 1) := by
  unfold back src road ofHalf
  split
  · exact Fin.ext (by show ((c.val + 15) % 16 + 15 * k) % 16 = (c.val + 15 * (k + 1)) % 16; omega)
  · exact Fin.ext (by show ((c.val + 1) % 16 + k) % 16 = (c.val + (k + 1)) % 16; omega)
theorem back_zero (t : Fin 8) (c : Dev nD) : back t c 0 = c := by
  unfold back ofHalf
  split <;> exact Fin.ext (Nat.mod_eq_of_lt c.isLt)
/-- After the last step the block is the device's own. -/
theorem chunk_last (t : Fin 8) (c : Dev nD) : chunk t c 15 = c := by
  unfold chunk ofHalf
  have hc : c.val < 16 := c.isLt
  split
  · exact Fin.ext (by show (c.val + 15 * (15 + 1)) % 16 = c.val; omega)
  · exact Fin.ext (by show (c.val + (15 + 1)) % 16 = c.val; omega)

/-- The running sum after step `n` adds up what the last `n + 1` devices on the road add to its block. -/
theorem part_apply (t : Fin 8) (i : Fin 128) (j : Fin 256) : ∀ (n : ℕ) (c : Dev nD),
    part m ρ t n c (ix2 i j) = ∑ k ∈ Finset.range (n + 1), addend m (back t c k) (chunk t c n) i (column t j)
  | 0, c => by
    rw [Finset.sum_range_one, back_zero]
    exact strip_apply m ρ t c 0 i j
  | n + 1, c => by
    rw [Finset.sum_range_succ']
    show part m ρ t n (src c t) (ix2 i j) + strip (lAt m ρ c (n + 1)) (rAt m ρ c (n + 1)) t (ix2 i j) = _
    rw [part_apply t i j n (src c t), strip_apply, back_zero, chunk_src]
    simp only [back_src]

/-- Sixteen devices on a road are all devices. -/
theorem back_bijective (t : Fin 8) (c : Dev nD) : Function.Bijective fun k : Fin 16 => back t c k.val := by
  refine (Fintype.bijective_iff_injective_and_card _).2 ⟨fun k l h => Fin.ext ?_, rfl⟩
  unfold back ofHalf at h
  have hk : k.val < 16 := k.isLt
  have hl : l.val < 16 := l.isLt
  dsimp only at h
  split at h
  · have e : (c.val + 15 * k.val) % 16 = (c.val + 15 * l.val) % 16 := congrArg Fin.val h
    omega
  · have e : (c.val + k.val) % 16 = (c.val + l.val) % 16 := congrArg Fin.val h
    omega

/-- The finished strip adds up what all devices add to the device's block. -/
theorem part_last (t : Fin 8) (c : Dev nD) (i : Fin 128) (j : Fin 256) :
    part m ρ t 15 c (ix2 i j) = ∑ d : Dev nD, addend m d c i (column t j) := by
  rw [part_apply, chunk_last, Finset.sum_range]
  exact Fintype.sum_bijective _ (back_bijective t c) _ _ fun _ => rfl

/-- The kernel's result, entry by entry. -/
theorem outAt_apply (c : Dev nD) (i : Fin 128) (j : Fin 2048) : outAt m ρ c (ix2 i j) = ∑ d : Dev nD, addend m d c i j := by
  have e : inStrip (ix2 i j) = ix2 i ⟨j.val % 256, Nat.mod_lt _ (by decide)⟩ := by
    funext a; fin_cases a <;> rfl
  have ej : column (stripOf (ix2 i j)) ⟨j.val % 256, Nat.mod_lt _ (by decide)⟩ = j :=
    Fin.ext (by show j.val / 256 * 256 + j.val % 256 = j.val; omega)
  show part m ρ (stripOf (ix2 i j)) 15 c (inStrip (ix2 i j)) = _
  rw [e, part_last, ej]

/-! ## The whole product -/

/-- A sum over 2048 places, sixteen blocks of 128. -/
theorem sum_blocks (f : Fin 2048 → EReal) : ∑ k, f k = ∑ d : Fin 16, ∑ k : Fin 128, f ⟨d.val * 128 + k.val, by omega⟩ := by
  rw [← Fintype.sum_prod_type']
  exact (Fintype.sum_equiv (finProdFinEquiv (m := 16) (n := 128)) _ f fun p => congrArg f (Fin.ext (by
    show p.1.val * 128 + p.2.val = p.2.val + 128 * p.1.val; omega))).symm

/-- From blocks of two matrices the kernel leaves on each device its block of their product. -/
theorem outAt_eq (x w : FVec Ideal ⟨2, ![2048, 2048]⟩ .f32)
    (y : FVec Ideal ⟨2, ![2048, 2048]⟩ .f32)
    (hy : ∀ j : (⟨2, ![2048, 2048]⟩ : Shape).Idx, y j = ∑ k : Fin 2048, x (ix2 (j 0) k) * w (ix2 k (j 1)))
    (hx : ∀ c : Dev nD, xBuf m c = Layout.block ⟨2, ![2048, 128]⟩ ⟨2, ![2048, 2048]⟩ 1 16 c x)
    (hw : ∀ c : Dev nD, wBuf m c = Layout.block ⟨2, ![128, 2048]⟩ ⟨2, ![2048, 2048]⟩ 0 16 c w) (c : Dev nD) :
    outAt m ρ c = Layout.block ⟨2, ![128, 2048]⟩ ⟨2, ![2048, 2048]⟩ 0 16 c y := by
  funext j
  obtain ⟨i, k, rfl⟩ : ∃ (i : Fin 128) (k : Fin 2048), j = ix2 i k := ⟨j 0, j 1, eq_ix2 j⟩
  rw [outAt_apply, Layout.block_apply, hy, sum_blocks]
  change @Eq EReal _ _
  refine Finset.sum_congr rfl fun e _ => Finset.sum_congr rfl fun l _ => ?_
  rw [hx, hw]
  refine congrArg₂ (· * ·) (congrArg x ?_) (congrArg w ?_)
  · funext a; fin_cases a <;> rfl
  · funext a; fin_cases a <;> rfl

/-! ## What the run leaves in the arrays -/

section Final
variable {F : FTy → Type} [FloatOps F] (m : (ℓ : Loc nD τ sig) → Buf (Elt F) ℓ) (ρ : Dev nD → PrngReg)

/-- The arguments end as they were; -/
theorem finalA_x (c : Dev nD) : finalA m ρ c (0 : Fin 3) = m ((c : Thread nD τ).loc main_arg0) := (dats m ρ 0 c).arrAt_in (0 : Fin 3) rfl _
@[inherit_doc finalA_x] theorem finalA_w (c : Dev nD) : finalA m ρ c (1 : Fin 3) = m ((c : Thread nD τ).loc main_arg1) := (dats m ρ 0 c).arrAt_in (1 : Fin 3) rfl _

/-- the result ends as the body left it. -/
theorem finalA_out (c : Dev nD) : finalA m ρ c (2 : Fin 3) = outAt m ρ c := by
  have hr : (win0_2.blk (0 : Fin 1)).view.read (Elt F) (finalA m ρ c (2 : Fin 3)) = finalA m ρ c (2 : Fin 3) :=
    Memref.read_access_unit_zero (Elt F) main_v1 (funext fun a => by fin_cases a <;> decide) (fun a => by fin_cases a <;> decide) _
  rw [← hr]
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

end Final

end Cert.Ring

end
-- ==== Proof.Whole.lean ====
/- The run of the reference: one product of two whole matrices, on one device. -/
module

public import Idealize.ShloMosaic.Lib.StableHlo.Run
public import Idealize.ShloMosaic.Lib.Quiescent
public import Idealize.ShloMosaic.Lib.Claim
public import Idealize.ShloMosaic.Lib.Pointwise
public import proofs.«01_k».proof.Proof.Gen.ReferenceIdeal

@[expose] public section

noncomputable section

namespace Cert.Whole

open Cert.ReferenceIdeal Cert.ReferenceIdeal.Gen
open Idealize.ShloMosaic Idealize.ShloMosaic.TcCoe Idealize.ShloMosaic.StableHlo Idealize.SL.Sem

variable {F : FTy → Type} [FloatOps F]

/-- The product of two whole matrices. -/
abbrev whole (x w : FVec F S2048x2048 .f32) : FVec F S2048x2048 .f32 :=
  Host.dotGeneral dot_S2048x2048_S2048x2048_S2048x2048_1_0_0_1_n_n none x w

/-- The reference's only operation. -/
abbrev ops : List (HloOp τ sig (Elt F)) := [binary main_arg0 main_arg1 main_v0 whole]

theorem main_eq (c : Dev nD) : main (F := F) c = seq ops := rfl

/-- It leaves the product in the result; -/
theorem after_out (V : Valuation τ sig (Elt F)) :
    after ops V (main_v0 : DevRef τ sig) = whole (V (main_arg0 : DevRef τ sig)) (V (main_arg1 : DevRef τ sig)) := by
  after_results
/-- and the arguments as they were. -/
theorem after_x (V : Valuation τ sig (Elt F)) : after ops V (main_arg0 : DevRef τ sig) = V (main_arg0 : DevRef τ sig) := by
  after_results
@[inherit_doc after_x] theorem after_w (V : Valuation τ sig (Elt F)) : after ops V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

/-- Every run of the reference ends, with the product in the result, the arguments as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0) = whole (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v0).trans (after_out _), (h c main_arg0).trans (after_x _), (h c main_arg1).trans (after_w _)⟩,
      sem_eq_zero_of_no_sems (by decide) r.2⟩)
    (run_seq no_scoped_refs no_scoped_sems defs main (fun _ => ops) main_eq (fun _ => binary_bufs_sub ..) m ρ)

/-- The whole product in exact arithmetic, entry by entry. -/
theorem whole_apply (x w : FVec Ideal S2048x2048 .f32) (j : S2048x2048.Idx) :
    whole x w j = ∑ k : Fin 2048, x (ix2 (j 0) k) * w (ix2 k (j 1)) := by
  pointwise [whole]

end Cert.Whole

end
-- ==== Proof.lean ====
/-
  The claims about the kernel, each from the run of its program: the kernel's run (Proof/Launched.lean, over any float
  values, hence once for the bit patterns and once for exact arithmetic, whose programs Proof/Same.lean compares), the
  reference's (Proof/Whole.lean), and what
  the kernel's result is in exact arithmetic (Proof/Values.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launched
public import proofs.«01_k».proof.Proof.Same
public import proofs.«01_k».proof.Proof.Values
public import proofs.«01_k».proof.Proof.Whole
public import Idealize.ShloMosaic.Adequacy
public import Idealize.ShloMosaic.Init

@[expose] public section

set_option maxRecDepth 10000

noncomputable section

namespace Cert.Proof

open Idealize.ShloMosaic Idealize.ShloMosaic.TcCoe Idealize.SL.Sem

/-- The kernel's run over any float values: the result, the arguments as they were, every counter at zero. -/
theorem run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_v1) = Cert.Ring.outAt m ρ c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (2 : Fin 3)).trans (Cert.Ring.finalA_out m ρ c), (h.1 c (0 : Fin 3)).trans (Cert.Ring.finalA_x m ρ c),
      (h.1 c (1 : Fin 3)).trans (Cert.Ring.finalA_w m ρ c)⟩, h.2⟩)
    (Cert.Ring.run_main m ρ)

/-- The kernel at bit patterns runs, leaves its arguments and ends with every counter at zero; -/
theorem frame_kernel : Cert.quiescent_Kernel := by
  intro m ρ _
  rw [Cert.Ring.defs_eq]
  exact (θ_run Cert.KernelIdeal.defs _ _).mono (fun _ h => And.intro (fun c => (h.1 c).2) h.2) (run (F := Bits) m ρ)
/-- the kernel in exact arithmetic does, -/
theorem frame_ideal : Cert.quiescent_KernelIdeal := fun m ρ _ =>
  (θ_run Cert.KernelIdeal.defs _ _).mono (fun _ h => ⟨fun c => (h.1 c).2, h.2⟩) (run (F := Ideal) m ρ)
/-- and the reference does. -/
theorem frame_reference : Cert.quiescent_ReferenceIdeal := fun m ρ _ =>
  (θ_run Cert.ReferenceIdeal.defs _ _).mono (fun _ h => ⟨fun c => (h.1 c).2, h.2⟩) (Cert.Whole.run_main (F := Ideal) m ρ)

/-- In exact arithmetic the kernel leaves on every device its block of the product of the whole matrices. -/
theorem algebraic : Cert.algebraic_KernelIdeal_ReferenceIdeal := by
  intro m g m' g' _ hm
  refine ⟨Cert.Whole.whole (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (Cert.Ring.outAt_eq m g _ _ _ (Cert.Whole.whole_apply _ _) (fun c => (hm c).1) (fun c => (hm c).2) c), (h.1 c).2⟩)
      (run (F := Ideal) m g)
  · exact (θ_run Cert.ReferenceIdeal.defs _ _).mono (fun _ h => h.1 0) (Cert.Whole.run_main (F := Ideal) m' g')

/-- Everything claimed. -/
theorem claim : Cert.Claim := ⟨Cert.Kernel.Gen.facts, Cert.KernelIdeal.Gen.facts, Cert.ReferenceIdeal.Gen.facts,
  frame_kernel, frame_ideal, frame_reference, trivial, algebraic⟩

end Cert.Proof

end
